-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 8, 64]⟩ ⟨4, ![4, 1024, 32, 64]⟩ (Layout.meshBlock [2, 4, 4] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 256, 2048]⟩ ⟨3, ![4, 1024, 2048]⟩ (Layout.meshBlock [2, 4, 4] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8x64 : Shape := ⟨4, ![4, 1024, 8, 64]⟩
abbrev S512x2048 : Shape := ⟨2, ![512, 2048]⟩
abbrev S4x1024x512 : Shape := ⟨3, ![4, 1024, 512]⟩
abbrev S4x256x2048 : Shape := ⟨3, ![4, 256, 2048]⟩
abbrev S3x8 : Shape := ⟨2, ![3, 8]⟩
abbrev S_ : Shape := ⟨0, ![]⟩
abbrev S1x128x512 : Shape := ⟨3, ![1, 128, 512]⟩
abbrev S128x512 : Shape := ⟨2, ![128, 512]⟩
abbrev S128x2048 : Shape := ⟨2, ![128, 2048]⟩
abbrev S1x128x2048 : Shape := ⟨3, ![1, 128, 2048]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x1024x8x64, .f32⟩
  | .hbm, ⟨1, _⟩ => ⟨S512x2048, .f32⟩
  | .hbm, ⟨2, _⟩ => ⟨S4x1024x512, .f32⟩
  | .hbm, ⟨3, _⟩ => ⟨S4x256x2048, .f32⟩
  | .local _ .vmem, ⟨0, _⟩ => ⟨S4x1024x512, .f32⟩
  | .local _ .vmem, ⟨1, _⟩ => ⟨S512x2048, .f32⟩
  | .local _ .vmem, ⟨2, _⟩ => ⟨S4x256x2048, .f32⟩
  | .local _ .vmem, ⟨3, _⟩ => ⟨S4x256x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S4x256x2048, .bf16⟩
  | .local _ .vmem, ⟨7, _⟩ => ⟨S4x256x2048, .f32⟩
  | _, _ => ⟨S4x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k0_off1 (d0 : Dev nD) (c3_i32 : BitVec 32) (c0_i32_31 : BitVec 32) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c256_i32 : BitVec 32 := 256#32
  let v55 : BitVec 32 := Scalar.muli v54 c256_i32
  let v56 : BitVec 32 := Scalar.addi v55 c0_i32_31
  let v57 : Index := Scalar.indexCast v56
  let c0_32 : Index := 0#32
  ![0, v57.toNat, 0]
def k0_dev3 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v67 : BitVec 32 := Scalar.muli v2 c16_i32_45
  let v68 : BitVec 32 := Scalar.addi c0_i32_46 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v69 : BitVec 32 := Scalar.muli v5 c4_i32_47
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_48 : BitVec 32 := 1#32
  let v71 : BitVec 32 := Scalar.muli v19 c1_i32_48
  let v72 : BitVec 32 := Scalar.addi v70 v71
  v72.toNat
def k0_dev4 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v93 : BitVec 32 := Scalar.muli v2 c16_i32_67
  let v94 : BitVec 32 := Scalar.addi c0_i32_68 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v95 : BitVec 32 := Scalar.muli v5 c4_i32_69
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_70 : BitVec 32 := 1#32
  let v97 : BitVec 32 := Scalar.muli v19 c1_i32_70
  let v98 : BitVec 32 := Scalar.addi v96 v97
  v98.toNat
def k0_off2 (d0 : Dev nD) (c3_i32 : BitVec 32) (c0_i32_76 : BitVec 32) : Fin 3 → Nat :=
  let c1 : Index := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c256_i32_75 : BitVec 32 := 256#32
  let v107 : BitVec 32 := Scalar.muli v54 c256_i32_75
  let v108 : BitVec 32 := Scalar.addi v107 c0_i32_76
  let v109 : Index := Scalar.indexCast v108
  let c0_77 : Index := 0#32
  ![1, v109.toNat, 0]
def k0_dev5 (d0 : Dev nD) : Nat :=
  let c0_i32_91 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_90 : BitVec 32 := 16#32
  let v119 : BitVec 32 := Scalar.muli v2 c16_i32_90
  let v120 : BitVec 32 := Scalar.addi c0_i32_91 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v121 : BitVec 32 := Scalar.muli v5 c4_i32_92
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_93 : BitVec 32 := 1#32
  let v123 : BitVec 32 := Scalar.muli v19 c1_i32_93
  let v124 : BitVec 32 := Scalar.addi v122 v123
  v124.toNat
def k0_dev6 (d0 : Dev nD) : Nat :=
  let c0_i32_115 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_114 : BitVec 32 := 16#32
  let v145 : BitVec 32 := Scalar.muli v2 c16_i32_114
  let v146 : BitVec 32 := Scalar.addi c0_i32_115 v145
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v147 : BitVec 32 := Scalar.muli v5 c4_i32_116
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_117 : BitVec 32 := 1#32
  let v149 : BitVec 32 := Scalar.muli v19 c1_i32_117
  let v150 : BitVec 32 := Scalar.addi v148 v149
  v150.toNat
def k0_off3 (d0 : Dev nD) (c3_i32 : BitVec 32) (c0_i32_123 : BitVec 32) : Fin 3 → Nat :=
  let c2 : Index := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c256_i32_122 : BitVec 32 := 256#32
  let v159 : BitVec 32 := Scalar.muli v54 c256_i32_122
  let v160 : BitVec 32 := Scalar.addi v159 c0_i32_123
  let v161 : Index := Scalar.indexCast v160
  let c0_124 : Index := 0#32
  ![2, v161.toNat, 0]
def k0_dev7 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v171 : BitVec 32 := Scalar.muli v2 c16_i32_137
  let v172 : BitVec 32 := Scalar.addi c0_i32_138 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_139 : BitVec 32 := 4#32
  let v173 : BitVec 32 := Scalar.muli v5 c4_i32_139
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_140 : BitVec 32 := 1#32
  let v175 : BitVec 32 := Scalar.muli v19 c1_i32_140
  let v176 : BitVec 32 := Scalar.addi v174 v175
  v176.toNat
def k0_dev8 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v197 : BitVec 32 := Scalar.muli v2 c16_i32_160
  let v198 : BitVec 32 := Scalar.addi c0_i32_161 v197
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v199 : BitVec 32 := Scalar.muli v5 c4_i32_162
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_163 : BitVec 32 := 1#32
  let v201 : BitVec 32 := Scalar.muli v19 c1_i32_163
  let v202 : BitVec 32 := Scalar.addi v200 v201
  v202.toNat
def k0_off4 (d0 : Dev nD) (c3_i32 : BitVec 32) (c0_i32_169 : BitVec 32) : Fin 3 → Nat :=
  let c3 : Index := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c256_i32_168 : BitVec 32 := 256#32
  let v211 : BitVec 32 := Scalar.muli v54 c256_i32_168
  let v212 : BitVec 32 := Scalar.addi v211 c0_i32_169
  let v213 : Index := Scalar.indexCast v212
  let c0_170 : Index := 0#32
  ![3, v213.toNat, 0]
def k0_dev9 (d0 : Dev nD) : Nat :=
  let c0_i32_183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_182 : BitVec 32 := 16#32
  let v223 : BitVec 32 := Scalar.muli v2 c16_i32_182
  let v224 : BitVec 32 := Scalar.addi c0_i32_183 v223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v225 : BitVec 32 := Scalar.muli v5 c4_i32_184
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_185 : BitVec 32 := 1#32
  let v227 : BitVec 32 := Scalar.muli v19 c1_i32_185
  let v228 : BitVec 32 := Scalar.addi v226 v227
  v228.toNat
def k0_dev10 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_205 : BitVec 32 := 16#32
  let v249 : BitVec 32 := Scalar.muli v2 c16_i32_205
  let v250 : BitVec 32 := Scalar.addi c0_i32_206 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v251 : BitVec 32 := Scalar.muli v5 c4_i32_207
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_208 : BitVec 32 := 1#32
  let v253 : BitVec 32 := Scalar.muli v19 c1_i32_208
  let v254 : BitVec 32 := Scalar.addi v252 v253
  v254.toNat
def k0_dev11 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v384 : BitVec 32 := Scalar.muli v2 c16_i32_329
  let v385 : BitVec 32 := Scalar.addi c0_i32_330 v384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v386 : BitVec 32 := Scalar.muli v5 c4_i32_331
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_332 : BitVec 32 := 1#32
  let v388 : BitVec 32 := Scalar.muli v19 c1_i32_332
  let v389 : BitVec 32 := Scalar.addi v387 v388
  v389.toNat
def k0_dev12 (d0 : Dev nD) : Nat :=
  let c0_i32_367 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_366 : BitVec 32 := 16#32
  let v420 : BitVec 32 := Scalar.muli v2 c16_i32_366
  let v421 : BitVec 32 := Scalar.addi c0_i32_367 v420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_368 : BitVec 32 := 4#32
  let v422 : BitVec 32 := Scalar.muli v5 c4_i32_368
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_369 : BitVec 32 := 1#32
  let v424 : BitVec 32 := Scalar.muli v19 c1_i32_369
  let v425 : BitVec 32 := Scalar.addi v423 v424
  v425.toNat
def k0_dev13 (d0 : Dev nD) : Nat :=
  let c0_i32_404 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_403 : BitVec 32 := 16#32
  let v456 : BitVec 32 := Scalar.muli v2 c16_i32_403
  let v457 : BitVec 32 := Scalar.addi c0_i32_404 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_405 : BitVec 32 := 4#32
  let v458 : BitVec 32 := Scalar.muli v5 c4_i32_405
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_406 : BitVec 32 := 1#32
  let v460 : BitVec 32 := Scalar.muli v19 c1_i32_406
  let v461 : BitVec 32 := Scalar.addi v459 v460
  v461.toNat
def k0_dev14 (d0 : Dev nD) : Nat :=
  let c0_i32_441 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_440 : BitVec 32 := 16#32
  let v492 : BitVec 32 := Scalar.muli v2 c16_i32_440
  let v493 : BitVec 32 := Scalar.addi c0_i32_441 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_442 : BitVec 32 := 4#32
  let v494 : BitVec 32 := Scalar.muli v5 c4_i32_442
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_443 : BitVec 32 := 1#32
  let v496 : BitVec 32 := Scalar.muli v19 c1_i32_443
  let v497 : BitVec 32 := Scalar.addi v495 v496
  v497.toNat
def k0_dev15 (d0 : Dev nD) : Nat :=
  let c0_i32_478 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_477 : BitVec 32 := 16#32
  let v528 : BitVec 32 := Scalar.muli v2 c16_i32_477
  let v529 : BitVec 32 := Scalar.addi c0_i32_478 v528
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_479 : BitVec 32 := 4#32
  let v530 : BitVec 32 := Scalar.muli v5 c4_i32_479
  let v531 : BitVec 32 := Scalar.addi v529 v530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_480 : BitVec 32 := 1#32
  let v532 : BitVec 32 := Scalar.muli v19 c1_i32_480
  let v533 : BitVec 32 := Scalar.addi v531 v532
  v533.toNat
def k0_dev16 (d0 : Dev nD) : Nat :=
  let c0_i32_515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_514 : BitVec 32 := 16#32
  let v564 : BitVec 32 := Scalar.muli v2 c16_i32_514
  let v565 : BitVec 32 := Scalar.addi c0_i32_515 v564
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_516 : BitVec 32 := 4#32
  let v566 : BitVec 32 := Scalar.muli v5 c4_i32_516
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_517 : BitVec 32 := 1#32
  let v568 : BitVec 32 := Scalar.muli v19 c1_i32_517
  let v569 : BitVec 32 := Scalar.addi v567 v568
  v569.toNat
def k0_dev17 (d0 : Dev nD) : Nat :=
  let c0_i32_552 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_551 : BitVec 32 := 16#32
  let v600 : BitVec 32 := Scalar.muli v2 c16_i32_551
  let v601 : BitVec 32 := Scalar.addi c0_i32_552 v600
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_553 : BitVec 32 := 4#32
  let v602 : BitVec 32 := Scalar.muli v5 c4_i32_553
  let v603 : BitVec 32 := Scalar.addi v601 v602
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_554 : BitVec 32 := 1#32
  let v604 : BitVec 32 := Scalar.muli v19 c1_i32_554
  let v605 : BitVec 32 := Scalar.addi v603 v604
  v605.toNat
def k0_dev18 (d0 : Dev nD) : Nat :=
  let c0_i32_589 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_588 : BitVec 32 := 16#32
  let v636 : BitVec 32 := Scalar.muli v2 c16_i32_588
  let v637 : BitVec 32 := Scalar.addi c0_i32_589 v636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_590 : BitVec 32 := 4#32
  let v638 : BitVec 32 := Scalar.muli v5 c4_i32_590
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_591 : BitVec 32 := 1#32
  let v640 : BitVec 32 := Scalar.muli v19 c1_i32_591
  let v641 : BitVec 32 := Scalar.addi v639 v640
  v641.toNat
def k0_dev19 (d0 : Dev nD) : Nat :=
  let c0_i32_713 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_712 : BitVec 32 := 16#32
  let v771 : BitVec 32 := Scalar.muli v2 c16_i32_712
  let v772 : BitVec 32 := Scalar.addi c0_i32_713 v771
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_714 : BitVec 32 := 4#32
  let v773 : BitVec 32 := Scalar.muli v5 c4_i32_714
  let v774 : BitVec 32 := Scalar.addi v772 v773
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_715 : BitVec 32 := 1#32
  let v775 : BitVec 32 := Scalar.muli v19 c1_i32_715
  let v776 : BitVec 32 := Scalar.addi v774 v775
  v776.toNat
def k0_dev20 (d0 : Dev nD) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_749 : BitVec 32 := 16#32
  let v807 : BitVec 32 := Scalar.muli v2 c16_i32_749
  let v808 : BitVec 32 := Scalar.addi c0_i32_750 v807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_751 : BitVec 32 := 4#32
  let v809 : BitVec 32 := Scalar.muli v5 c4_i32_751
  let v810 : BitVec 32 := Scalar.addi v808 v809
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_752 : BitVec 32 := 1#32
  let v811 : BitVec 32 := Scalar.muli v19 c1_i32_752
  let v812 : BitVec 32 := Scalar.addi v810 v811
  v812.toNat
def k0_dev21 (d0 : Dev nD) : Nat :=
  let c0_i32_787 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_786 : BitVec 32 := 16#32
  let v843 : BitVec 32 := Scalar.muli v2 c16_i32_786
  let v844 : BitVec 32 := Scalar.addi c0_i32_787 v843
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_788 : BitVec 32 := 4#32
  let v845 : BitVec 32 := Scalar.muli v5 c4_i32_788
  let v846 : BitVec 32 := Scalar.addi v844 v845
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_789 : BitVec 32 := 1#32
  let v847 : BitVec 32 := Scalar.muli v19 c1_i32_789
  let v848 : BitVec 32 := Scalar.addi v846 v847
  v848.toNat
def k0_dev22 (d0 : Dev nD) : Nat :=
  let c0_i32_824 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_823 : BitVec 32 := 16#32
  let v879 : BitVec 32 := Scalar.muli v2 c16_i32_823
  let v880 : BitVec 32 := Scalar.addi c0_i32_824 v879
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_825 : BitVec 32 := 4#32
  let v881 : BitVec 32 := Scalar.muli v5 c4_i32_825
  let v882 : BitVec 32 := Scalar.addi v880 v881
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_826 : BitVec 32 := 1#32
  let v883 : BitVec 32 := Scalar.muli v19 c1_i32_826
  let v884 : BitVec 32 := Scalar.addi v882 v883
  v884.toNat
def k0_dev23 (d0 : Dev nD) : Nat :=
  let c0_i32_861 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_860 : BitVec 32 := 16#32
  let v915 : BitVec 32 := Scalar.muli v2 c16_i32_860
  let v916 : BitVec 32 := Scalar.addi c0_i32_861 v915
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_862 : BitVec 32 := 4#32
  let v917 : BitVec 32 := Scalar.muli v5 c4_i32_862
  let v918 : BitVec 32 := Scalar.addi v916 v917
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_863 : BitVec 32 := 1#32
  let v919 : BitVec 32 := Scalar.muli v19 c1_i32_863
  let v920 : BitVec 32 := Scalar.addi v918 v919
  v920.toNat
def k0_dev24 (d0 : Dev nD) : Nat :=
  let c0_i32_898 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_897 : BitVec 32 := 16#32
  let v951 : BitVec 32 := Scalar.muli v2 c16_i32_897
  let v952 : BitVec 32 := Scalar.addi c0_i32_898 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_899 : BitVec 32 := 4#32
  let v953 : BitVec 32 := Scalar.muli v5 c4_i32_899
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_900 : BitVec 32 := 1#32
  let v955 : BitVec 32 := Scalar.muli v19 c1_i32_900
  let v956 : BitVec 32 := Scalar.addi v954 v955
  v956.toNat
def k0_dev25 (d0 : Dev nD) : Nat :=
  let c0_i32_935 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_934 : BitVec 32 := 16#32
  let v987 : BitVec 32 := Scalar.muli v2 c16_i32_934
  let v988 : BitVec 32 := Scalar.addi c0_i32_935 v987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_936 : BitVec 32 := 4#32
  let v989 : BitVec 32 := Scalar.muli v5 c4_i32_936
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_937 : BitVec 32 := 1#32
  let v991 : BitVec 32 := Scalar.muli v19 c1_i32_937
  let v992 : BitVec 32 := Scalar.addi v990 v991
  v992.toNat
def k0_dev26 (d0 : Dev nD) : Nat :=
  let c0_i32_972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_971 : BitVec 32 := 16#32
  let v1023 : BitVec 32 := Scalar.muli v2 c16_i32_971
  let v1024 : BitVec 32 := Scalar.addi c0_i32_972 v1023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_973 : BitVec 32 := 4#32
  let v1025 : BitVec 32 := Scalar.muli v5 c4_i32_973
  let v1026 : BitVec 32 := Scalar.addi v1024 v1025
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_974 : BitVec 32 := 1#32
  let v1027 : BitVec 32 := Scalar.muli v19 c1_i32_974
  let v1028 : BitVec 32 := Scalar.addi v1026 v1027
  v1028.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x32x64 : Shape := ⟨4, ![4, 1024, 32, 64]⟩
abbrev S2048x2048 : Shape := ⟨2, ![2048, 2048]⟩
abbrev S4x1024x2048 : Shape := ⟨3, ![4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x64, .f32⟩
  | .hbm, ⟨1, _⟩ => ⟨S2048x2048, .f32⟩
  | .hbm, ⟨2, _⟩ => ⟨S4x1024x2048, .f32⟩
  | .hbm, ⟨3, _⟩ => ⟨S4x1024x2048, .f32⟩
  | _, _ => ⟨S4x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
module

public import proofs.«01_k».proof.Proof.Gen.KernelIdeal.Frame

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The rectangles of the eight sub-blocks -/

/-- Sub-block `s` is rows `128 (s mod 2) …` of batch entry `s / 2`. -/
abbrev brow (s : Fin 8) : Fin 3 → Nat := ![s.val / 2, 128 * (s.val % 2), 0]

/-- Each sub-block lies inside the buffer, -/
theorem brow_inb : ∀ s : Fin 8, ∀ a, brow s a + S1x128x2048.size a ≤ S4x256x2048.size a := by decide

/-- Sub-block `s` of a chunk-sized buffer. -/
abbrev rect (s : Fin 8) : Rect S4x256x2048 := Rect.unit (s := S4x256x2048) (brow s) S1x128x2048.size (brow_inb s)

/-- its rows are packed whole, -/
theorem rect_packed : ∀ s : Fin 8, (rect s).PackedRows (EltTy.packing .bf16) := by decide
/-- and it is made of whole words. -/
theorem rect_words : ∀ s : Fin 8, (rect s).WholeWords (EltTy.packing .bf16) := by decide

/-- Where sub-block `s` of the chunk that device `c` works on in hop `h` starts in `c`'s block of `O`. -/
abbrev orow (c : Dev nD) (h : Fin 4) (s : Fin 8) : Fin 3 → Nat :=
  ![s.val / 2, k0_off1 c (BitVec.ofNat 32 (3 - h.val)) (BitVec.ofNat 32 (128 * (s.val % 2))) 1, 0]

/-- The start in closed form: the chunk is `(c + 3 - h) mod 4`. -/
theorem orow_eq : ∀ (c : Dev nD) (h : Fin 4) (s : Fin 8),
    orow c h s = ![s.val / 2, 256 * ((c.val % 4 + 3 - h.val) % 4) + 128 * (s.val % 2), 0] := by decide +kernel

/-- The rows read lie inside the block of `O`. -/
theorem orow_inb (c : Dev nD) (h : Fin 4) (s : Fin 8) : ∀ a, orow c h s a + S1x128x512.size a ≤ S4x1024x512.size a := by
  rw [orow_eq]
  obtain ⟨s, hs⟩ := s
  intro a
  match a with
  | 0 => show s / 2 + 1 ≤ 4; omega
  | 1 => show 256 * ((c.val % 4 + 3 - h.val) % 4) + 128 * (s % 2) + 128 ≤ 1024; omega
  | 2 => show 0 + 512 ≤ 512; omega

abbrev orect (c : Dev nD) (h : Fin 4) (s : Fin 8) : Rect S4x1024x512 :=
  Rect.unit (s := S4x1024x512) (orow c h s) S1x128x512.size (orow_inb c h s)

abbrev wrect : Rect S512x2048 := Rect.unit (s := S512x2048) ![0, 0] S512x2048.size inb_S512x2048_S512x2048_0_0

/-- A hop and a sub-block index the semaphore arrays in bounds. -/
theorem srow_inb : ∀ (h : Fin 3) (s : Fin 8), ∀ a, (![h.val, s.val] : Fin 2 → Nat) a + S1x1.size a ≤ S3x8.size a := by decide

/-- The semaphore of hop `h` and sub-block `s` in an array of them. -/
abbrev semAt (A : DmaSems sig S3x8) (h : Fin 3) (s : Fin 8) : DmaSem sig :=
  ((A.slice (Rect.unit (s := S3x8) ![h.val, s.val] S1x1.size (srow_inb h s))).squeeze S_ squeezes_S1x1_S_).sem

/-- The barrier semaphore. -/
abbrev barS : Sem sig := (SemArray.scalar (sig.barrier 0 rfl) : Sems sig S_).sem

/-! ## The neighbours on the ring along the last axis of the mesh -/

abbrev right (c : Dev nD) : Dev nD := ⟨k0_dev3 c, k0_dev3_lt c⟩
abbrev left (c : Dev nD) : Dev nD := ⟨k0_dev1 c, k0_dev1_lt c⟩

/-! ## The values stored -/

/-- The product of a sub-block of `O` and `Wo`. -/
def prod (v : Vec F S1x128x512 .f32) (w : Vec F S512x2048 .f32) : FVec F S128x2048 .f32 :=
  matmul dot_S128x512_S512x2048_S128x2048_1_0_0_1_n_n none
    (shapeCast S128x512 v shapeCasts_S1x128x512_S128x512) (shapeCast S512x2048 w shapeCasts_S512x2048_S512x2048)
    (constant S128x2048 .f32 0x00000000#32)

/-- What the first hop sends. -/
def payT (v : Vec F S1x128x512 .f32) (w : Vec F S512x2048 .f32) : FVec F S1x128x2048 .bf16 :=
  shapeCast S1x128x2048 (truncf .bf16 (prod v w) bitsLt_bf16_f32) shapeCasts_S128x2048_S1x128x2048

/-- The own product a later hop adds. -/
def payP (v : Vec F S1x128x512 .f32) (w : Vec F S512x2048 .f32) : FVec F S1x128x2048 .f32 :=
  shapeCast S1x128x2048 (prod v w) shapeCasts_S128x2048_S1x128x2048

/-- The sum of what has arrived and the own product. -/
def total (v : Vec F S1x128x2048 .bf16) (p : Vec F S1x128x2048 .f32) : FVec F S128x2048 .f32 :=
  addf (extf .f32 (shapeCast S128x2048 v shapeCasts_S1x128x2048_S128x2048) bitsLt_bf16_f32)
    (shapeCast S128x2048 p shapeCasts_S1x128x2048_S128x2048)

/-- What a later hop sends on. -/
def payA (v : Vec F S1x128x2048 .bf16) (p : Vec F S1x128x2048 .f32) : FVec F S1x128x2048 .bf16 :=
  shapeCast S1x128x2048 (truncf .bf16 (total v p) bitsLt_bf16_f32) shapeCasts_S128x2048_S1x128x2048

/-- What the last hop stores. -/
def payO (v : Vec F S1x128x2048 .bf16) (p : Vec F S1x128x2048 .f32) : FVec F S1x128x2048 .f32 :=
  shapeCast S1x128x2048 (total v p) shapeCasts_S128x2048_S1x128x2048

/-! ## The steps of the program -/

abbrev P (F : FTy → Type) [FloatOps F] : Type → Type 1 := Prog (TpuEff nD τ sig (Elt F) Λ₀ .tc)

section steps

variable (a0 : Memref sig .tc .vmem S4x1024x512 .f32) (a1 : Memref sig .tc .vmem S512x2048 .f32)

/-- One step after another. -/
abbrev andThen (p q : P F PUnit) : P F PUnit := p >>= fun _ => q

/-- A step for each sub-block of a list, then the rest. -/
def sweep (f : Fin 8 → P F PUnit) : List (Fin 8) → P F PUnit → P F PUnit
  | [], q => q
  | s :: l, q => andThen (f s) (sweep f l q)

/-- A buffer's sub-block as a transfer takes it. -/
abbrev blk {e : EltTy} (b : Memref sig .tc .vmem S4x256x2048 e) (s : Fin 8) : Memref sig .tc .vmem S128x2048 e :=
  (b.slice (rect s) (fun _ => rfl)).squeeze S128x2048 squeezes_S1x128x2048_S128x2048

/-- A transfer of a sub-block moves whole words. -/
theorem blk_words {b : Memref sig .tc .vmem S4x256x2048 .bf16} (hb : b.IsWhole) (s : Fin 8) : (blk b s).view.WordExact :=
  (hb.wordExact_slice rfl _ (rect_words s)).reshape _ _

/-- A sub-block of a bf16 buffer can be stored. -/
theorem stores16 {b : Memref sig .tc .vmem S4x256x2048 .bf16} (hb : b.IsWhole) (s : Fin 8) :
    (b.access (rect s)).Stores Finset.univ :=
  View.stores_vmem h_S1x128x2048 (hb.storeExact_slice rfl _ (rect_packed s)) (fun _ => rfl)

/-- Read the sub-block of `O` and `Wo`, and store a value computed from them. -/
def stepMul {e : EltTy} (c : Dev nD) (h : Fin 4) (b : Memref sig .tc .vmem S4x256x2048 e)
    (pay : Vec F S1x128x512 .f32 → Vec F S512x2048 .f32 → Vec F S1x128x2048 e) (s : Fin 8)
    (hs : (b.access (rect s)).Stores Finset.univ) : P F PUnit := do
  let v ← Prog.lift (.load a0 (orect c h s).toLoadRect (View.loadsAt_vmem h_S1x128x512))
  let w ← Prog.lift (.load a1 wrect.toLoadRect (View.loadsAt_vmem h_S512x2048))
  let _ ← Prog.lift (.load b (rect s).toLoadRect (View.loadsAt_vmem h_S1x128x2048))
  Prog.lift (.store b (rect s) (pay v w) Finset.univ hs (.inl rfl))

/-- Store the own product of hop `h` for a later hop's sum. -/
abbrev stepOwn (p : Memref sig .tc .vmem S4x256x2048 .f32) (c : Dev nD) (h : Fin 4) (s : Fin 8) : P F PUnit :=
  stepMul a0 a1 c h p payP s (View.stores_vmem_bits_univ h_S1x128x2048 rfl)

/-- Copy sub-block `s` of `src` to the right neighbour's `dst`, on hop `h`'s semaphores. -/
def stepSend (c : Dev nD) (h : Fin 3) (src dst : Memref sig .tc .vmem S4x256x2048 .bf16) (hsrc : src.IsWhole) (hdst : dst.IsWhole)
    (S R : DmaSems sig S3x8) (s : Fin 8) : P F PUnit :=
  Prog.lift (.enqueueDma (blk src s) (.remote (Dev.tc (right c)) (blk dst s) (.dma (semAt S h s))) (.dma (semAt R h s))
    (blk_words hsrc s) (blk_words hdst s) ⟨⟨rfl, Or.inl rfl⟩, trivial⟩)

/-- Wait for a transfer of sub-block `s`. -/
def stepWait (h : Fin 3) (src dst : Memref sig .tc .vmem S4x256x2048 .bf16) (hsrc : src.IsWhole) (hdst : dst.IsWhole)
    (S : DmaSems sig S3x8) (s : Fin 8) : P F PUnit :=
  Prog.lift (.waitDma2 (semAt S h s) (blk src s) (blk dst s) (blk_words hsrc s) (blk_words hdst s))

/-- Add the own product to what has arrived in `r`, and store it to `o`. -/
def stepAdd {e : EltTy} (r : Memref sig .tc .vmem S4x256x2048 .bf16) (p : Memref sig .tc .vmem S4x256x2048 .f32)
    (o : Memref sig .tc .vmem S4x256x2048 e)
    (pay : Vec F S1x128x2048 .bf16 → Vec F S1x128x2048 .f32 → Vec F S1x128x2048 e) (s : Fin 8)
    (hs : (o.access (rect s)).Stores Finset.univ) : P F PUnit := do
  let v ← Prog.lift (.load r (rect s).toLoadRect (View.loadsAt_vmem h_S1x128x2048))
  let w ← Prog.lift (.load p (rect s).toLoadRect (View.loadsAt_vmem h_S1x128x2048))
  let _ ← Prog.lift (.load o (rect s).toLoadRect (View.loadsAt_vmem h_S1x128x2048))
  Prog.lift (.store o (rect s) (pay v w) Finset.univ hs (.inl rfl))

end steps

/-- The whole body on device `c`: the two signals, the first hop's products and copies (the barrier wait after the
    first product), then per hop the own products, and per sub-block the wait, the sum and the next copy, the last
    hop storing the result; at the end the waits for the copies sent. -/
def ring (a0 : Memref sig .tc .vmem S4x1024x512 .f32) (a1 : Memref sig .tc .vmem S512x2048 .f32)
    (a2 : Memref sig .tc .vmem S4x256x2048 .f32)
    (a3 : Memref sig .tc .vmem S4x256x2048 .bf16) (h3 : a3.IsWhole) (a4 : Memref sig .tc .vmem S4x256x2048 .bf16) (h4 : a4.IsWhole)
    (a5 : Memref sig .tc .vmem S4x256x2048 .bf16) (h5 : a5.IsWhole) (a6 : Memref sig .tc .vmem S4x256x2048 .bf16) (h6 : a6.IsWhole)
    (a7 : Memref sig .tc .vmem S4x256x2048 .f32) (S R : DmaSems sig S3x8) (c : Dev nD) : P F PUnit :=
  andThen (semSignalWord (left c) barS 1#32) <|
  andThen (semSignalWord (right c) barS 1#32) <|
  andThen (stepMul a0 a1 c 0 a3 payT 0 (stores16 h3 0)) <|
  andThen (semWaitWord barS 2#32) <|
  andThen (stepSend c 0 a3 a4 h3 h4 S R 0) <|
  sweep (fun s => andThen (stepMul a0 a1 c 0 a3 payT s (stores16 h3 s)) (stepSend c 0 a3 a4 h3 h4 S R s)) [1, 2, 3, 4, 5, 6, 7] <|
  sweep (stepOwn a0 a1 a7 c 1) [0, 1, 2, 3, 4, 5, 6, 7] <|
  sweep (fun s => andThen (stepWait 0 a3 a4 h3 h4 R s) (andThen (stepAdd a4 a7 a4 payA s (stores16 h4 s))
    (stepSend c 1 a4 a5 h4 h5 S R s))) [0, 1, 2, 3, 4, 5, 6, 7] <|
  sweep (stepOwn a0 a1 a7 c 2) [0, 1, 2, 3, 4, 5, 6, 7] <|
  sweep (fun s => andThen (stepWait 1 a4 a5 h4 h5 R s) (andThen (stepAdd a5 a7 a5 payA s (stores16 h5 s))
    (stepSend c 2 a5 a6 h5 h6 S R s))) [0, 1, 2, 3, 4, 5, 6, 7] <|
  sweep (stepOwn a0 a1 a7 c 3) [0, 1, 2, 3, 4, 5, 6, 7] <|
  sweep (fun s => andThen (stepWait 2 a5 a6 h5 h6 R s) (stepAdd a6 a7 a2 payO s
    (View.stores_vmem_bits_univ h_S1x128x2048 rfl))) [0, 1, 2, 3, 4, 5, 6, 7] <|
  sweep (stepWait 0 a4 a3 h4 h3 S) [0, 1, 2, 3, 4, 5, 6, 7] <|
  sweep (stepWait 1 a5 a4 h5 h4 S) [0, 1, 2, 3, 4, 5, 6, 7] <|
  sweep (stepWait 2 a6 a5 h6 h5 S) [0, 1, 2, 3, 4, 5, 6, 7] (pure ⟨⟩)

/-- The kernel's body reads the device it runs on, then is that program. -/
theorem body_ring (a0 : Memref sig .tc .vmem S4x1024x512 .f32) (h0 : a0.IsWhole) (a1 : Memref sig .tc .vmem S512x2048 .f32) (h1 : a1.IsWhole)
    (a2 : Memref sig .tc .vmem S4x256x2048 .f32) (h2 : a2.IsWhole)
    (a3 : Memref sig .tc .vmem S4x256x2048 .bf16) (h3 : a3.IsWhole) (a4 : Memref sig .tc .vmem S4x256x2048 .bf16) (h4 : a4.IsWhole)
    (a5 : Memref sig .tc .vmem S4x256x2048 .bf16) (h5 : a5.IsWhole) (a6 : Memref sig .tc .vmem S4x256x2048 .bf16) (h6 : a6.IsWhole)
    (a7 : Memref sig .tc .vmem S4x256x2048 .f32) (h7 : a7.IsWhole) (S R : DmaSems sig S3x8) :
    (cc0_body a0 h0 a1 h1 a2 h2 a3 h3 a4 h4 a5 h5 a6 h6 a7 h7 S R : P F PUnit)
      = (Prog.lift (TpuEff.deviceId) >>= fun c => ring a0 a1 a2 a3 h3 a4 h4 a5 h5 a6 h6 a7 S R c) := by
  chain_rfl

end Cert.KernelIdeal.Ring

end
-- ==== Proof.Sched.lean ====
module

public import proofs.«01_k».proof.Proof.Program
public import Idealize.ShloMosaic.Lib.Pipeline.RegionTalk
public import Idealize.ShloMosaic.Lib.Pipeline.BigSepL
public import Idealize.ShloMosaic.Harness.Basic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging cells' rounds and the ring's -/

/-- The ring's rounds: a barrier round has two duties, told apart by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers of the ring -/

/-- The buffer that hop `i` sends from, and that hop `i - 1` receives in. -/
def hb : Fin 4 → Memref sig .tc .vmem S4x256x2048 .bf16
  | 0 => Memref.whole cc0_scratch0
  | 1 => Memref.whole cc0_scratch1
  | 2 => Memref.whole cc0_scratch2
  | 3 => Memref.whole cc0_scratch3

/-- Each hop's buffer is a whole buffer. -/
theorem hb_whole : ∀ i, (hb i).IsWhole
  | 0 => Memref.isWhole_whole _
  | 1 => Memref.isWhole_whole _
  | 2 => Memref.isWhole_whole _
  | 3 => Memref.isWhole_whole _

abbrev pM : Memref sig .tc .vmem S4x256x2048 .f32 := Memref.whole cc0_scratch4
abbrev oM : Memref sig .tc .vmem S4x1024x512 .f32 := Memref.whole cc0_stg0_0
abbrev wM : Memref sig .tc .vmem S512x2048 .f32 := Memref.whole cc0_stg1_0
abbrev outM : Memref sig .tc .vmem S4x256x2048 .f32 := Memref.whole cc0_stg2_0

/-- Device `c`'s sub-block `s` of a buffer, at contents not chosen. -/
def anyB {e : EltTy} (c : Dev nD) (b : Memref sig .tc .vmem S4x256x2048 e) (s : Fin 8) : sProp 𝕄 :=
  iprop(∃ f, (b.access (rect s)).loc (c : Thread nD τ) ↦[(b.access (rect s)).set]{fullShare} f)

/-- Device `c`'s sub-block `s` of a buffer, reading `g`. -/
def ptsB {e : EltTy} (c : Dev nD) (b : Memref sig .tc .vmem S4x256x2048 e) (s : Fin 8) (g : Vec F S1x128x2048 e) : sProp 𝕄 :=
  iprop(∃ f, ⌜(b.access (rect s)).read (Elt F) f = g⌝
    ∗ (b.access (rect s)).loc (c : Thread nD τ) ↦[(b.access (rect s)).set]{fullShare} f)

/-- A sub-block with known contents is one with some contents. -/
theorem ptsB_any {e : EltTy} (c : Dev nD) (b : Memref sig .tc .vmem S4x256x2048 e) (s : Fin 8) (g : Vec F S1x128x2048 e) :
    ptsB c b s g ⊢ anyB c b s := by
  unfold ptsB anyB
  iintro ⟨%f, -, H⟩; iexists f; iexact H

/-! ## What the buffers hold -/

section contents

variable (X : Dev nD → oM.view.ty.Contents (Elt F)) (Y : Dev nD → wM.view.ty.Contents (Elt F))

/-- The sub-block of its block of `O` that device `c` multiplies in hop `h`. -/
def oblk (c : Dev nD) (h : Fin 4) (s : Fin 8) : Vec F S1x128x512 .f32 := (oM.access (orect c h s)).read (Elt F) (X c)
/-- Its block of `Wo`. -/
def wblk (c : Dev nD) : Vec F S512x2048 .f32 := (wM.access wrect).read (Elt F) (Y c)
/-- Its own product. -/
def ownP (c : Dev nD) (h : Fin 4) (s : Fin 8) : Vec F S1x128x2048 .f32 := payP (oblk X c h s) (wblk Y c)
/-- What device `c` sends in hop `h`. -/
def sent : ℕ → Dev nD → Fin 8 → Vec F S1x128x2048 .bf16
  | 0, c, s => payT (oblk X c 0 s) (wblk Y c)
  | h + 1, c, s => payA (sent h (left c) s) (ownP X Y c (Fin.ofNat 4 (h + 1)) s)
/-- What it stores at the end. -/
def result (c : Dev nD) (s : Fin 8) : Vec F S1x128x2048 .f32 := payO (sent X Y 2 (left c) s) (ownP X Y c 3 s)

end contents

/-! ## The cells -/

abbrev sendS (h : Fin 3) (s : Fin 8) : DmaSem sig := semAt cc0_scratch5 h s
abbrev recvS (h : Fin 3) (s : Fin 8) : DmaSem sig := semAt cc0_scratch6 h s

abbrev barCell (c : Dev nD) : GSem nD τ sig := ((c : Thread nD τ), .reg barS)
abbrev sendCell (c : Dev nD) (h : Fin 3) (s : Fin 8) : GSem nD τ sig := ((c : Thread nD τ), .dma (sendS h s))
abbrev recvCell (c : Dev nD) (h : Fin 3) (s : Fin 8) : GSem nD τ sig := ((c : Thread nD τ), .dma (recvS h s))

/-- What a semaphore is for. -/
inductive Role where
  | bar | send (h : Fin 3) (s : Fin 8) | recv (h : Fin 3) (s : Fin 8) | none
deriving DecidableEq

/-- Each semaphore's role, read off its number. -/
def role : SemLoc sig → Role
  | .reg r => if r = barS then .bar else .none
  | .dma d => if 3 ≤ d.val then
      if d.val < 27 then .send (Fin.ofNat 3 ((d.val - 3) / 8)) (Fin.ofNat 8 ((d.val - 3) % 8))
      else .recv (Fin.ofNat 3 ((d.val - 27) / 8)) (Fin.ofNat 8 ((d.val - 27) % 8))
    else .none

/-- The barrier semaphore plays the barrier's role, -/
theorem role_bar : role (.reg barS) = .bar := by decide +kernel
/-- a send semaphore a send's, -/
theorem role_send : ∀ h s, role (.dma (sendS h s)) = .send h s := by decide +kernel
/-- a receive semaphore a receive's. -/
theorem role_recv : ∀ h s, role (.dma (recvS h s)) = .recv h s := by decide +kernel

/-! ## The ring -/

/-- The left neighbour of the right neighbour is the device itself, -/
theorem left_right : ∀ c : Dev nD, left (right c) = c := by decide +kernel
/-- and so is the right neighbour of the left. -/
theorem right_left : ∀ c : Dev nD, right (left c) = c := by decide +kernel
def ringE : Dev nD ≃ Dev nD := ⟨right, left, left_right, right_left⟩

/-- The left neighbour in closed form: one step back in the device's group of four. -/
theorem left_val : ∀ c : Dev nD, (left c).val = 4 * (c.val / 4) + (c.val % 4 + 3) % 4 := by decide +kernel

/-! ## The schedule -/

/-- The hops and the sub-blocks, listed. -/
abbrev hops : List (Fin 3) := [0, 1, 2]
abbrev subs : List (Fin 8) := [0, 1, 2, 3, 4, 5, 6, 7]

/-- A sub-block's units. -/
abbrev N : ℕ := (blk (hb 0) 0).view.dmaCredit
/-- A copy counts some units. -/
theorem N_pos : 0 < N := View.dmaCredit_pos _ (by decide)

/-- Paid to device `c`'s barrier cell by its right neighbour: the right neighbour's receive buffers, and that round 0
    of each of its receive cells is reached. -/
def barPay (c : Dev nD) : sProp 𝕄 :=
  bigSepL hops fun h => bigSepL subs fun s =>
    iprop(anyB (right c) (hb h.succ) s ∗ reached ER (recvCell (right c) h s) 0)

variable (X : Dev nD → oM.view.ty.Contents (Elt F)) (Y : Dev nD → wM.view.ty.Contents (Elt F))

def payOf (c : Dev nD) : Role → Bool → sProp 𝕄
  | .bar, d => if d then barPay c else iprop(emp)
  | .send h s, _ => anyB c (hb h.castSucc) s
  | .recv h s, _ => ptsB c (hb h.succ) s (sent X Y h.val (left c) s)
  | .none, _ => iprop(emp)

def dutiesOf : Role → Finset Bool
  | .bar => {true, false}
  | .send _ _ => {false}
  | .recv _ _ => {false}
  | .none => ∅

/-- One round on each cell: a barrier is paid by both neighbours, a receive cell by the left neighbour's copy, a send cell
    by the own copy. -/
def Rd : Rounds.Schedule (GSem nD τ sig) Bool 𝕄 where
  duties g r := if r = 0 ∧ g.1.2 = .tc then dutiesOf (role g.2) else ∅
  unitless _ := False
  amount g _ _ := if role g.2 = .bar then 1 else N
  payload g _ d := payOf X Y g.1.1 (role g.2) d
  amount_pos g _ _ _ := by
    by_cases h : role g.2 = .bar
    · rw [if_pos h]; exact Nat.one_pos
    · rw [if_neg h]; exact N_pos

instance anyB_storable {e : EltTy} (c : Dev nD) (b : Memref sig .tc .vmem S4x256x2048 e) (s : Fin 8) :
    BI.Storable (upEmb : UEmb _ 𝕄) (anyB (F := F) c b s) := by unfold anyB; infer_instance
instance ptsB_storable {e : EltTy} (c : Dev nD) (b : Memref sig .tc .vmem S4x256x2048 e) (s : Fin 8) (g : Vec F S1x128x2048 e) :
    BI.Storable (upEmb : UEmb _ 𝕄) (ptsB (F := F) c b s g) := by unfold ptsB; infer_instance

/-- A product of storable propositions over a list is storable. -/
theorem bigSepL_storable {I : Type} (l : List I) (Φ : I → sProp 𝕄) (hΦ : ∀ i, BI.Storable (upEmb : UEmb _ 𝕄) (Φ i)) :
    BI.Storable (upEmb : UEmb _ 𝕄) (bigSepL l Φ) := by
  induction l with
  | nil => exact (inferInstance : BI.Storable (upEmb : UEmb _ 𝕄) iprop(emp))
  | cons i l ih => rw [bigSepL_cons]; have := hΦ i; exact (inferInstance : BI.Storable (upEmb : UEmb _ 𝕄) iprop(Φ i ∗ bigSepL l Φ))

instance barPay_storable (c : Dev nD) : BI.Storable (upEmb : UEmb _ 𝕄) (barPay (F := F) c) := by
  unfold barPay
  exact bigSepL_storable _ _ fun h => bigSepL_storable _ _ fun s => inferInstance

instance Rd_storable (g : GSem nD τ sig) (r : ℕ) (d : Bool) : BI.Storable (upEmb : UEmb _ 𝕄) ((Rd (F := F) X Y).payload g r d) := by
  show BI.Storable upEmb (payOf X Y g.1.1 (role g.2) d)
  cases role g.2 <;> simp only [payOf] <;> (repeat' split) <;> infer_instance

/-! ### Its tables -/

section tables

variable (c : Dev nD) (h : Fin 3) (s : Fin 8) (d : Bool)

/-- In the first round a TensorCore cell's duties are its role's: -/
theorem duties_tc (sm : SemLoc sig) : (Rd (F := F) X Y).duties ((c : Thread nD τ), sm) 0 = dutiesOf (role sm) :=
  (if_pos (⟨rfl, rfl⟩ : (0 : ℕ) = 0 ∧ (Proc.tc : Proc τ) = .tc) : (if _ then dutiesOf (role sm) else ∅) = _)
/-- two on a barrier cell, -/
theorem duties_bar : (Rd (F := F) X Y).duties (barCell c) 0 = {true, false} := by
  rw [duties_tc, role_bar]; rfl
/-- one on a send cell, -/
theorem duties_send : (Rd (F := F) X Y).duties (sendCell c h s) 0 = {false} := by
  rw [duties_tc, role_send]; rfl
/-- one on a receive cell, -/
theorem duties_recv : (Rd (F := F) X Y).duties (recvCell c h s) 0 = {false} := by
  rw [duties_tc, role_recv]; rfl
/-- and none in any later round. -/
theorem duties_later (g : GSem nD τ sig) : ∀ r, 1 ≤ r → (Rd (F := F) X Y).duties g r = ∅ :=
  fun r hr => if_neg fun h => by omega

/-- A barrier duty is one unit, -/
theorem amount_bar : (Rd (F := F) X Y).amount (barCell c) 0 d = 1 := (if_pos role_bar : (if role (.reg barS) = .bar then 1 else N) = 1)
/-- a send duty a copy's units, -/
theorem amount_send : (Rd (F := F) X Y).amount (sendCell c h s) 0 d = N := if_neg (by rw [role_send]; exact fun h => by cases h)
/-- a receive duty too. -/
theorem amount_recv : (Rd (F := F) X Y).amount (recvCell c h s) 0 d = N := if_neg (by rw [role_recv]; exact fun h => by cases h)

/-- So a barrier cell expects two units, -/
theorem expect_bar : (Rd (F := F) X Y).expect (barCell c) 0 = 2 := by
  unfold Schedule.expect Schedule.amountOf; rw [duties_bar, Finset.sum_pair (by decide), amount_bar, amount_bar]
/-- a send cell a copy's, -/
theorem expect_send : (Rd (F := F) X Y).expect (sendCell c h s) 0 = N := by
  unfold Schedule.expect Schedule.amountOf; rw [duties_send, Finset.sum_singleton, amount_send]
/-- and a receive cell a copy's. -/
theorem expect_recv : (Rd (F := F) X Y).expect (recvCell c h s) 0 = N := by
  unfold Schedule.expect Schedule.amountOf; rw [duties_recv, Finset.sum_singleton, amount_recv]

/-- The right neighbour's barrier unit hands over its receive buffers, -/
theorem payload_barT : (Rd (F := F) X Y).payload (barCell c) 0 true = barPay c := by
  show payOf X Y c (role (.reg barS)) true = _; rw [role_bar]; rfl
/-- the left neighbour's nothing, -/
theorem payload_barF : (Rd (F := F) X Y).payload (barCell c) 0 false = iprop(emp) := by
  show payOf X Y c (role (.reg barS)) false = _; rw [role_bar]; rfl
/-- a finished send its source, -/
theorem payload_send : (Rd (F := F) X Y).payload (sendCell c h s) 0 d = anyB c (hb h.castSucc) s := by
  show payOf X Y c (role (.dma (sendS h s))) d = _; rw [role_send]; rfl
/-- a landing the sub-block with what the left neighbour sent. -/
theorem payload_recv : (Rd (F := F) X Y).payload (recvCell c h s) 0 d = ptsB c (hb h.succ) s (sent X Y h.val (left c) s) := by
  show payOf X Y c (role (.dma (recvS h s))) d = _; rw [role_recv]; rfl

/-- What a wait on the barrier gives, -/
theorem rest_bar : bigSep ((Rd (F := F) X Y).duties (barCell c) 0 \ ∅) (fun d => (Rd (F := F) X Y).payload (barCell c) 0 d)
    ⊢ barPay c := by
  rw [Finset.sdiff_empty, duties_bar, bigSep_insert (by decide), bigSep_singleton, payload_barT, payload_barF]
  exact (equiv_iff.mp sep_emp).le
/-- a wait on a send, -/
theorem rest_send : bigSep ((Rd (F := F) X Y).duties (sendCell c h s) 0 \ ∅) (fun d => (Rd (F := F) X Y).payload (sendCell c h s) 0 d)
    = anyB c (hb h.castSucc) s := by
  rw [Finset.sdiff_empty, duties_send, bigSep_singleton, payload_send]
/-- a wait on a landing. -/
theorem rest_recv : bigSep ((Rd (F := F) X Y).duties (recvCell c h s) 0 \ ∅) (fun d => (Rd (F := F) X Y).payload (recvCell c h s) 0 d)
    = ptsB c (hb h.succ) s (sent X Y h.val (left c) s) := by
  rw [Finset.sdiff_empty, duties_recv, bigSep_singleton, payload_recv]

end tables

/-! ## What each device owes; the levels -/

/-- What device `c` owes once its first `k` copies are issued: each later copy's units on its right neighbour's cell. -/
def owed (c : Dev nD) (k : ℕ) : CellTallies nD τ sig Unit :=
  ∑ p ∈ (Finset.univ : Finset (Fin 3 × Fin 8)).filter (fun p => k ≤ 8 * p.1.val + p.2.val), tallyAt (recvCell (right c) p.1 p.2) () N

/-- At launch also a unit on each neighbour's barrier cell. -/
def O₀ (c : Dev nD) : CellTallies nD τ sig Unit :=
  owed c 0 + tallyAt (barCell (right c)) () 1 + tallyAt (barCell (left c)) () 1

/-- Starting a copy pays one debt. -/
theorem owed_step (c : Dev nD) (h : Fin 3) (s : Fin 8) :
    owed c (8 * h.val + s.val) = owed c (8 * h.val + s.val + 1) + tallyAt (recvCell (right c) h s) () N := by
  unfold owed
  rw [show (Finset.univ : Finset (Fin 3 × Fin 8)).filter (fun p => 8 * h.val + s.val ≤ 8 * p.1.val + p.2.val)
      = insert (h, s) ((Finset.univ : Finset (Fin 3 × Fin 8)).filter (fun p => 8 * h.val + s.val + 1 ≤ 8 * p.1.val + p.2.val)) from by
    ext ⟨a, b⟩
    simp only [Finset.mem_filter, Finset.mem_univ, true_and, Finset.mem_insert, Prod.mk.injEq, Fin.ext_iff]
    omega]
  rw [Finset.sum_insert (by simp), add_comm]

/-- After all 24 copies nothing is owed. -/
theorem owed_end (c : Dev nD) : owed c 24 = 0 := by
  unfold owed
  rw [Finset.filter_false_of_mem (fun p _ => by have := p.1.isLt; have := p.2.isLt; omega), Finset.sum_empty]

/-- Where something is owed: a receive cell of the right neighbour, of a later copy. -/
theorem owed_pos {c : Dev nD} {k : ℕ} {g : GSem nD τ sig} {u : Unit} (hg : 0 < owed c k g u) :
    ∃ (h : Fin 3) (s : Fin 8), k ≤ 8 * h.val + s.val ∧ g = recvCell (right c) h s := by
  unfold owed at hg
  rw [Finset.sum_apply, Finsupp.finsetSum_apply] at hg
  obtain ⟨p, hp, hne⟩ := Finset.exists_ne_zero_of_sum_ne_zero (Nat.pos_iff_ne_zero.mp hg)
  refine ⟨p.1, p.2, (Finset.mem_filter.mp hp).2, ?_⟩
  rw [tallyAt_apply] at hne
  by_contra hc
  exact hne (if_neg fun h => hc h.1)

def L (g : GSem nD τ sig) : Finset Unit := if g.1.2 = .tc then {()} else ∅
def lvOf : Role → ℕ
  | .bar => 1
  | .recv h _ => 2 + h.val
  | _ => 0
/-- Barriers at 1, hop `h`'s receive cells at `2 + h`, the rest at 0. -/
def lv (g : GSem nD τ sig) (_ : Unit) : ℕ := lvOf (role g.2)

/-- No cell off the TensorCores has a level, -/
theorem L_of_ne (g : GSem nD τ sig) (h : g.1.2 ≠ .tc) : L g = ∅ := if_neg h
/-- and each one on a TensorCore has one. -/
theorem L_tc (c : Dev nD) (sm : SemLoc sig) : L ((c : Thread nD τ), sm) = {()} := if_pos rfl

/-- The levels' record. -/
@[irreducible] def lvs : sProp 𝕄 := levAts L lv
instance lvs_persistent : BI.Persistent (lvs (F := F)) := by unfold lvs; infer_instance

/-- A wait below every level still owed. -/
theorem mayWait_owed (c : Dev nD) (sm : SemLoc sig) (k b : ℕ) (hb : lvOf (role sm) ≤ b)
    (hk : ∀ (h : Fin 3) (s : Fin 8), k ≤ 8 * h.val + s.val → b < 2 + h.val) :
    lvs (F := F) ⊢ MayWait (c : Thread nD τ) sm () (owed c k) := by
  unfold lvs
  exact MayOwe.of_cut (L := L) (lev := lv) b (fun p hp => by rw [Finset.mem_singleton.mp hp, L_tc]; exact Finset.mem_singleton_self _)
    (fun g u hg => by obtain ⟨h, s, -, rfl⟩ := owed_pos hg; rw [L_tc]; exact Finset.mem_singleton_self _)
    (fun p hp => by rw [Finset.mem_singleton.mp hp]; exact hb)
    (fun g u hg => by
      obtain ⟨h, s, hks, rfl⟩ := owed_pos hg
      dsimp only [lv]; rw [role_recv]; exact hk h s hks)

end Cert.KernelIdeal.Ring

end
-- ==== Proof.Body.lean ====
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A stretch of the body on device `c` runs to `Q`. -/
abbrev runs (c : Dev nD) {α : Type} (p : P F α) (Q : α → sProp 𝕄) : sProp 𝕄 :=
  wp frame (wpE (defs₀ (F := F)) 𝒱₀ c none) Set.univ p Q

/-- A step that runs to `R`, then a rest that runs from `R`. -/
theorem runs_step {c : Dev nD} {p q : P F PUnit} {A R : sProp 𝕄} {Q : PUnit → sProp 𝕄} (h : A ⊢ runs c p (fun _ => R)) :
    iprop(A ∗ (R -∗ runs c q Q)) ⊢ runs c (andThen p q) Q := by
  unfold andThen runs
  rw [wp_bind]
  iintro ⟨HA, Hk⟩
  iapply (wp_wand frame (wpE (defs₀ (F := F)) 𝒱₀ c none) Set.univ (p := p) (Q := fun _ => R)) $$ [HA]
  · iapply h; iexact HA
  iintro %a HR
  iapply Hk; iexact HR

/-- A sweep over consecutive sub-blocks: what each takes is paired with what it leaves, and a state is passed on. -/
theorem runs_sweep {c : Dev nD} (f : Fin 8 → P F PUnit) (q : P F PUnit) (Q : PUnit → sProp 𝕄) (J : ℕ → sProp 𝕄) (B A : Fin 8 → sProp 𝕄)
    (h : ∀ s, iprop(J s.val ∗ B s) ⊢ runs c (f s) (fun _ => iprop(J (s.val + 1) ∗ A s))) :
    ∀ (l : List (Fin 8)) (k n : ℕ), l.map Fin.val = List.range' k n →
      iprop((J k ∗ bigSepL l B) ∗ ((J (k + n) ∗ bigSepL l A) -∗ runs c q Q)) ⊢ runs c (sweep f l q) Q
  | [], k, 0, _ => by
    iintro ⟨⟨HJ, HB⟩, Hk⟩
    iapply Hk
    isplitl [HJ]; · iexact HJ
    iexact HB
  | [], k, n + 1, hl => by simp [List.range'_succ] at hl
  | s :: l, k, 0, hl => by simp at hl
  | s :: l, k, n + 1, hl => by
    rw [List.range'_succ, List.map_cons, List.cons.injEq] at hl
    have ih := runs_sweep f q Q J B A h l (k + 1) n hl.2
    rw [bigSepL_cons', bigSepL_cons', sweep]
    have hs := h s
    rw [hl.1] at hs
    rw [show k + (n + 1) = k + 1 + n by omega]
    iintro ⟨⟨HJ, HB, HL⟩, Hk⟩
    iapply (runs_step hs) $$ [HJ HB HL Hk]
    isplitl [HJ HB]
    · isplitl [HJ]; · iexact HJ
      iexact HB
    iintro ⟨HJ, HA⟩
    iapply ih
    isplitl [HJ HL]
    · isplitl [HJ]; · iexact HJ
      iexact HL
    iintro ⟨HJ, HL⟩
    iapply Hk
    isplitl [HJ]; · iexact HJ
    isplitl [HA]; · iexact HA
    iexact HL

/-! ## The computing steps -/

section compute

variable (X : Dev nD → oM.view.ty.Contents (Elt F)) (Y : Dev nD → wM.view.ty.Contents (Elt F)) (c : Dev nD)

/-- The staged block of `O` and of `Wo`. -/
abbrev oPts : sProp 𝕄 := oM.view.loc (c : Thread nD τ) ↦[oM.view.set]{fullShare} X c
abbrev wPts : sProp 𝕄 := wM.view.loc (c : Thread nD τ) ↦[wM.view.set]{fullShare} Y c

/-- A multiplying step runs: it reads its two blocks, and stores the value computed from them in sub-block `s`. -/
theorem mul_runs {e : EltTy} (h : Fin 4) (b : Memref sig .tc .vmem S4x256x2048 e)
    (pay : Vec F S1x128x512 .f32 → Vec F S512x2048 .f32 → Vec F S1x128x2048 e) (s : Fin 8) (hs : (b.access (rect s)).Stores Finset.univ) :
    iprop((oPts X c ∗ wPts Y c) ∗ anyB c b s)
      ⊢ runs c (stepMul oM wM c h b pay s hs) (fun _ => iprop((oPts X c ∗ wPts Y c) ∗ ptsB c b s (pay (oblk X c h s) (wblk Y c)))) := by
  unfold stepMul anyB ptsB runs
  iintro ⟨⟨HX, HY⟩, %f, Hb⟩
  iapply (wp_load_rect 𝒱₀ (c : Thread nD τ) none Set.univ (m := oM) (r := orect c h s) (S := oM.view.set) (View.set_slice_subset _ _)) $$ HX
  iintro HX
  iapply (wp_load_rect 𝒱₀ (c : Thread nD τ) none Set.univ (m := wM) (r := wrect) (S := wM.view.set) (View.set_slice_subset _ _)) $$ HY
  iintro HY
  iapply (wp_load_rect 𝒱₀ (c : Thread nD τ) none Set.univ (m := b) (r := rect s) (S := (b.access (rect s)).set) subset_rfl) $$ Hb
  iintro Hb
  iapply (wp_store 𝒱₀ (c : Thread nD τ) none Set.univ (m := b) (r := rect s) (S := (b.access (rect s)).set) (by rw [View.setOn_univ])) $$ Hb
  iintro Hb
  rw [wp_ret]; imodintro
  isplitl [HX HY]
  · isplitl [HX]; · iexact HX
    iexact HY
  iexists _
  isplitr; rotate_left; iexact Hb
  ipureintro; exact View.read_write_univ _ _

/-- An adding step runs: it reads what has arrived and the own product, and stores the value computed from them. -/
theorem add_runs {e : EltTy} (r : Memref sig .tc .vmem S4x256x2048 .bf16) (p : Memref sig .tc .vmem S4x256x2048 .f32)
    (o : Memref sig .tc .vmem S4x256x2048 e)
    (pay : Vec F S1x128x2048 .bf16 → Vec F S1x128x2048 .f32 → Vec F S1x128x2048 e) (s : Fin 8) (hs : (o.access (rect s)).Stores Finset.univ)
    (v : Vec F S1x128x2048 .bf16) (w : Vec F S1x128x2048 .f32) :
    iprop(ptsB c r s v ∗ ptsB c p s w ∗ anyB c o s)
      ⊢ runs c (stepAdd r p o pay s hs) (fun _ => iprop(ptsB c r s v ∗ ptsB c p s w ∗ ptsB c o s (pay v w))) := by
  unfold stepAdd anyB ptsB runs
  iintro ⟨⟨%fr, %hr, Hr⟩, ⟨%fp, %hp, Hp⟩, %fo, Ho⟩
  iapply (wp_load_rect 𝒱₀ (c : Thread nD τ) none Set.univ (m := r) (r := rect s) (S := (r.access (rect s)).set) subset_rfl) $$ Hr
  iintro Hr
  iapply (wp_load_rect 𝒱₀ (c : Thread nD τ) none Set.univ (m := p) (r := rect s) (S := (p.access (rect s)).set) subset_rfl) $$ Hp
  iintro Hp
  iapply (wp_load_rect 𝒱₀ (c : Thread nD τ) none Set.univ (m := o) (r := rect s) (S := (o.access (rect s)).set) subset_rfl) $$ Ho
  iintro Ho
  iapply (wp_store 𝒱₀ (c : Thread nD τ) none Set.univ (m := o) (r := rect s) (S := (o.access (rect s)).set) (by rw [View.setOn_univ])) $$ Ho
  iintro Ho
  rw [wp_ret]; imodintro
  isplitl [Hr]; · iexists fr; isplitr; · ipureintro; exact hr
                  iexact Hr
  isplitl [Hp]; · iexists fp; isplitr; · ipureintro; exact hp
                  iexact Hp
  iexists _
  isplitr; rotate_left; iexact Ho
  ipureintro; rw [View.read_write_univ, hr, hp]

/-- The same with the sum stored where the summand arrived. -/
theorem acc_runs (r : Memref sig .tc .vmem S4x256x2048 .bf16) (p : Memref sig .tc .vmem S4x256x2048 .f32)
    (pay : Vec F S1x128x2048 .bf16 → Vec F S1x128x2048 .f32 → Vec F S1x128x2048 .bf16) (s : Fin 8) (hs : (r.access (rect s)).Stores Finset.univ)
    (v : Vec F S1x128x2048 .bf16) (w : Vec F S1x128x2048 .f32) :
    iprop(ptsB c r s v ∗ ptsB c p s w)
      ⊢ runs c (stepAdd r p r pay s hs) (fun _ => iprop(ptsB c r s (pay v w) ∗ ptsB c p s w)) := by
  unfold stepAdd ptsB runs
  iintro ⟨⟨%fr, %hr, Hr⟩, %fp, %hp, Hp⟩
  iapply (wp_load_rect 𝒱₀ (c : Thread nD τ) none Set.univ (m := r) (r := rect s) (S := (r.access (rect s)).set) subset_rfl) $$ Hr
  iintro Hr
  iapply (wp_load_rect 𝒱₀ (c : Thread nD τ) none Set.univ (m := p) (r := rect s) (S := (p.access (rect s)).set) subset_rfl) $$ Hp
  iintro Hp
  iapply (wp_load_rect 𝒱₀ (c : Thread nD τ) none Set.univ (m := r) (r := rect s) (S := (r.access (rect s)).set) subset_rfl) $$ Hr
  iintro Hr
  iapply (wp_store 𝒱₀ (c : Thread nD τ) none Set.univ (m := r) (r := rect s) (S := (r.access (rect s)).set) (by rw [View.setOn_univ])) $$ Hr
  iintro Hr
  rw [wp_ret]; imodintro
  isplitl [Hr]
  · iexists _
    isplitr; rotate_left; iexact Hr
    ipureintro; rw [View.read_write_univ, hr, hp]
  iexists fp; isplitr; · ipureintro; exact hp
  iexact Hp

end compute

/-! ## The talking steps -/

/-- A transfer's view of a sub-block is the sub-block's, re-indexed: same elements, and reading alike is the same on both. -/
theorem blk_set {e : EltTy} (b : Memref sig .tc .vmem S4x256x2048 e) (s : Fin 8) : (blk b s).view.set = (b.access (rect s)).set :=
  View.set_reshape _ _

/-- Every sub-block's copy counts the same number of units. -/
theorem blk_amount : ∀ (i : Fin 4) (s : Fin 8), (blk (hb i) s).view.dmaCredit = N
  | 0, _ => rfl
  | 1, _ => rfl
  | 2, _ => rfl
  | 3, _ => rfl

/-- A sub-block copied into another buffer is read there as it was. -/
theorem read_moved {e : EltTy} (a b : Memref sig .tc .vmem S4x256x2048 e) (s : Fin 8) (fa : a.view.ty.Contents (Elt F)) (fb : b.view.ty.Contents (Elt F)) :
    (b.access (rect s)).read (Elt F) ((blk b s).view.write (Elt F) fb ((blk a s).view.read (Elt F) fa) Finset.univ)
      = (a.access (rect s)).read (Elt F) fa := by
  have h := View.read_write_univ (Val := Elt F) (v := (blk b s).view) fb ((blk a s).view.read (Elt F) fa)
  funext i
  obtain ⟨j, rfl⟩ := (Shape.reshapeEquiv (squeezes_S1x128x2048_S128x2048.numel_eq)).surjective i
  exact congrFun h j

/-- A cell of the ring: a device's barrier, or one of its send (`false`) and receive (`true`) cells. -/
abbrev Site : Type := Option (Bool × Fin 3 × Fin 8)

def siteSem : Site → SemLoc sig
  | none => .reg barS
  | some (false, h, s) => .dma (sendS h s)
  | some (true, h, s) => .dma (recvS h s)

abbrev siteCell (p : Dev nD × Site) : GSem nD τ sig := ((p.1 : Thread nD τ), siteSem p.2)

section talk

variable (X : Dev nD → oM.view.ty.Contents (Elt F)) (Y : Dev nD → wM.view.ty.Contents (Elt F)) (κ : GSem nD τ sig → ℕ)

/-- Every cell's invariant, and the levels. -/
def records : sProp 𝕄 :=
  iprop(bigSep (Finset.univ : Finset (Dev nD × Site)) (fun p => cellInv ER (Rd X Y) (κ (siteCell p)) (siteCell p)) ∗ lvs)

instance records_persistent : BI.Persistent (records (F := F) X Y κ) := by unfold records; infer_instance

/-- The records hold each cell's invariant. -/
theorem records_cell (p : Dev nD × Site) : records X Y κ ⊢ cellInv ER (Rd (F := F) X Y) (κ (siteCell p)) (siteCell p) := by
  unfold records
  iintro ⟨H, -⟩
  ihave H := (bigSep_pick (Finset.mem_univ p)) $$ H
  icases H with ⟨H, -⟩
  iexact H
/-- The records hold the levels of the cells. -/
theorem records_lev : records X Y κ ⊢ lvs (F := F) := by
  unfold records
  iintro ⟨-, H⟩
  iexact H

variable (c : Dev nD)

/-- What is still owed after `k` copies. -/
def ow (k : ℕ) : sProp 𝕄 := iprop(∃ W, owes (c : Thread nD τ) (owed c k) W)

/-- A copy to the right neighbour starts: the sub-block and the token of its landing are handed over, and the debt is paid. -/
theorem send_runs (h : Fin 3) (s : Fin 8) :
    iprop(records X Y κ ∗ ow c (8 * h.val + s.val) ∗ ptsB c (hb h.castSucc) s (sent X Y h.val c s) ∗ anyB (right c) (hb h.succ) s
        ∗ dutyTok ER (sendCell c h s) 0 false ∗ reached ER (sendCell c h s) 0
        ∗ dutyTok ER (recvCell (right c) h s) 0 false ∗ reached ER (recvCell (right c) h s) 0)
      ⊢ runs c (stepSend c h (hb h.castSucc) (hb h.succ) (hb_whole _) (hb_whole _) cc0_scratch5 cc0_scratch6 s)
          (fun _ => iprop(ow c (8 * h.val + s.val + 1) ∗ cred (tallyAt (sendCell c h s) () N))) := by
  unfold stepSend ow anyB ptsB runs
  iintro ⟨#HR, ⟨%W, HO⟩, ⟨%fs, %hfs, Hs⟩, ⟨%fd, Hd⟩, HtS, HrS, HtR, HrR⟩
  iapply (Rounds.wp_send_pointsTo 𝒱₀ ER (Rd X Y) (c : Thread nD τ) none (c' := (right c : Thread nD τ)) (src := blk (hb h.castSucc) s) (dst := blk (hb h.succ) s)
      (sS := .dma (sendS h s)) (sem := .dma (recvS h s)) (q := fullShare) (fs := fs) (κ₁ := κ (sendCell c h s)) (κ₂ := κ (recvCell (right c) h s))
      (r₁ := 0) (r₂ := 0) (d₁ := false) (d₂ := false) (fd := fd)
      (by rw [duties_send]; exact Finset.mem_singleton_self _) (by rw [duties_recv]; exact Finset.mem_singleton_self _)
      () () N (blk_amount _ _) (amount_send X Y c h s false) (amount_recv X Y (right c) h s false) (owed c (8 * h.val + s.val + 1)) (owed_step c h s) (W := W)
      (by rw [payload_send, blk_set]; unfold anyB; iintro H; iexists fs; iexact H)
      (by
        rw [payload_recv, blk_set, left_right]; unfold ptsB; iintro H; iexists _
        isplitr; rotate_left; iexact H
        ipureintro
        rw [read_moved, hfs])) $$ [HO Hs Hd HtS HrS HtR HrR]
  · isplitr; · iapply (records_cell X Y κ (c, some (false, h, s))); iexact HR
    isplitr; · iapply (records_cell X Y κ (right c, some (true, h, s))); iexact HR
    rw [blk_set, blk_set]
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  rw [wp_ret]; imodintro
  isplitl [HO]; · iexists W; iexact HO
  iexact Hc

/-- A cell whose one round is over is closed with its counter at zero. -/
theorem close_cell (κ' : ℕ) (g : GSem nD τ sig) :
    iprop(cellInv ER (Rd X Y) κ' g ∗ atPos ER g (0 + 1) ∅ 0) ⊢ (|={Set.univ}=> semVal g 0 : sProp 𝕄) :=
  Rounds.cell_close ER (Rd X Y) (Set.mem_univ κ') id (duties_later X Y g)

/-- A landing of hop `h` may be awaited once the copies of hops up to `h` are under way. -/
theorem mayWait_recv (h : Fin 3) (s : Fin 8) (k : ℕ) (hk : 8 * (h.val + 1) ≤ k) :
    lvs (F := F) ⊢ MayWait (c : Thread nD τ) (.dma (recvS h s)) () (owed c k) := by
  have h1 : lvOf (role (.dma (recvS h s))) ≤ 2 + h.val := by rw [role_recv]; exact Nat.le_refl _
  exact mayWait_owed c _ k (2 + h.val) h1 (fun h' s' hs => by omega)

/-- A receive wait: the block comes in at what the left neighbour sent, and the cell is closed. -/
theorem recv_runs (h : Fin 3) (s : Fin 8) (k : ℕ) (hk : 8 * (h.val + 1) ≤ k) :
    iprop(records X Y κ ∗ ow c k ∗ cred (tallyAt (recvCell c h s) () N) ∗ atPos ER (recvCell c h s) 0 ∅ 0)
      ⊢ runs c (stepWait h (hb h.castSucc) (hb h.succ) (hb_whole _) (hb_whole _) cc0_scratch6 s)
          (fun _ => iprop(ow c k ∗ semVal (recvCell c h s) 0 ∗ ptsB c (hb h.succ) s (sent X Y h.val (left c) s))) := by
  unfold stepWait ow runs
  iintro ⟨#HR, ⟨%W, HO⟩, Hc, Hat⟩
  ihave #HI := (records_cell X Y κ (c, some (true, h, s))) $$ HR
  iapply (Rounds.wp_wait_rest_token 𝒱₀ ER (Rd X Y) (c : Thread nD τ) none (κ := κ (recvCell c h s))
      (wpE_waitDma2_eq (src := blk (hb h.castSucc) s) (dst := blk (hb h.succ) s) 𝒱₀ (c : Thread nD τ) none Set.univ) (Set.mem_univ _) () (O := owed c k) (W := W) (R := 0) (m := 0) (T := ∅)
      ((Nat.zero_add _).trans ((blk_amount h.succ s).trans (expect_recv X Y c h s).symm))) $$ [Hc HO Hat]
  · isplitr; · iexact HI
    isplitl [Hc]; · iexact Hc
    isplitl [HO]; · iexact HO
    isplitr
    · ihave Hl := (records_lev X Y κ) $$ HR
      ihave Hm := (mayWait_recv c h s k hk) $$ Hl
      iexact Hm
    iexact Hat
  iintro ⟨HO, Hat, -, Hpay⟩
  ihave Hp := (Entails.of_eq (rest_recv X Y c h s)) $$ Hpay
  rw [wp_ret]
  imod (close_cell X Y (κ (recvCell c h s)) (recvCell c h s)) $$ [Hat] with Hv
  · isplitr; · iexact HI
    iexact Hat
  imodintro
  isplitl [HO]; · iexists _; iexact HO
  isplitl [Hv]; · iexact Hv
  iexact Hp

/-- A send wait, owing nothing: the source block comes back, and the cell is closed. -/
theorem sendWait_runs (h : Fin 3) (s : Fin 8) :
    iprop(records X Y κ ∗ ow c 24 ∗ cred (tallyAt (sendCell c h s) () N) ∗ atPos ER (sendCell c h s) 0 ∅ 0)
      ⊢ runs c (stepWait h (hb h.succ) (hb h.castSucc) (hb_whole _) (hb_whole _) cc0_scratch5 s)
          (fun _ => iprop(ow c 24 ∗ semVal (sendCell c h s) 0 ∗ anyB c (hb h.castSucc) s)) := by
  unfold stepWait ow runs
  iintro ⟨#HR, ⟨%W, HO⟩, Hc, Hat⟩
  ihave #HI := (records_cell X Y κ (c, some (false, h, s))) $$ HR
  iapply (Rounds.wp_wait_rest_token 𝒱₀ ER (Rd X Y) (c : Thread nD τ) none (κ := κ (sendCell c h s))
      (wpE_waitDma2_eq (src := blk (hb h.succ) s) (dst := blk (hb h.castSucc) s) 𝒱₀ (c : Thread nD τ) none Set.univ) (Set.mem_univ _) () (O := owed c 24) (W := W) (R := 0) (m := 0) (T := ∅)
      ((Nat.zero_add _).trans ((blk_amount h.castSucc s).trans (expect_send X Y c h s).symm))) $$ [Hc HO Hat]
  · isplitr; · iexact HI
    isplitl [Hc]; · iexact Hc
    isplitl [HO]; · iexact HO
    isplitr; · rw [owed_end, MayWait_zero]; iempintro
    iexact Hat
  iintro ⟨HO, Hat, -, Hpay⟩
  ihave Hp := (Entails.of_eq (rest_send X Y c h s)) $$ Hpay
  rw [wp_ret]
  imod (close_cell X Y (κ (sendCell c h s)) (sendCell c h s)) $$ [Hat] with Hv
  · isplitr; · iexact HI
    iexact Hat
  imodintro
  isplitl [HO]; · iexists _; iexact HO
  isplitl [Hv]; · iexact Hv
  iexact Hp

end talk

end Cert.KernelIdeal.Ring

end
-- ==== Proof.Turns.lean ====
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Four held together, regrouped. -/
theorem four_swap (A B C D : sProp 𝕄) : iprop((A ∗ B) ∗ C ∗ D) ⊢ iprop((A ∗ C) ∗ B ∗ D) := by
  iintro ⟨⟨H1, H2⟩, H3, H4⟩
  isplitl [H1 H3]
  · isplitl [H1]; · iexact H1
    iexact H3
  isplitl [H2]; · iexact H2
  iexact H4

/-- A chain of pairs is the pair of the chains. -/
theorem bigSepL_pairs {I : Type} (l : List I) (Φ Ψ : I → sProp 𝕄) :
    bigSepL l (fun i => iprop(Φ i ∗ Ψ i)) = iprop(bigSepL l Φ ∗ bigSepL l Ψ) := by
  induction l with
  | nil => exact (equiv_iff.mp sep_emp).symm
  | cons i l ih =>
    rw [bigSepL_cons', bigSepL_cons', bigSepL_cons', ih]
    exact BI.Entails.antisymm (four_swap _ _ _ _) (four_swap _ _ _ _)

section turns

variable (X : Dev nD → oM.view.ty.Contents (Elt F)) (Y : Dev nD → wM.view.ty.Contents (Elt F)) (κ : GSem nD τ sig → ℕ) (c : Dev nD)

/-- What device `c` needs to send sub-block `s` in hop `h` beside the blocks: the duties its copy pays. -/
def SG (h : Fin 3) (s : Fin 8) : sProp 𝕄 :=
  iprop(dutyTok ER (sendCell c h s) 0 false ∗ reached ER (sendCell c h s) 0 ∗ dutyTok ER (recvCell (right c) h s) 0 false)
/-- What it learns from the right neighbour: where the copy lands. -/
def DG (h : Fin 3) (s : Fin 8) : sProp 𝕄 := iprop(anyB (right c) (hb h.succ) s ∗ reached ER (recvCell (right c) h s) 0)
/-- What it waits with for a block received, and for one sent. -/
def RG (h : Fin 3) (s : Fin 8) : sProp 𝕄 := iprop(cred (tallyAt (recvCell c h s) () N) ∗ atPos ER (recvCell c h s) 0 ∅ 0)
def WG (h : Fin 3) (s : Fin 8) : sProp 𝕄 := iprop(cred (tallyAt (sendCell c h s) () N) ∗ atPos ER (sendCell c h s) 0 ∅ 0)

/-- The send of a block in hand. -/
theorem send_turn (h : Fin 3) (s : Fin 8) :
    iprop(records X Y κ ∗ ow c (8 * h.val + s.val) ∗ ptsB c (hb h.castSucc) s (sent X Y h.val c s) ∗ SG c h s ∗ DG c h s)
      ⊢ runs c (stepSend c h (hb h.castSucc) (hb h.succ) (hb_whole _) (hb_whole _) cc0_scratch5 cc0_scratch6 s)
          (fun _ => iprop(ow c (8 * h.val + s.val + 1) ∗ cred (tallyAt (sendCell c h s) () N))) := by
  unfold SG DG
  iintro ⟨H1, H2, H3, ⟨H4, H5, H6⟩, H7, H8⟩
  iapply (send_runs X Y κ c h s)
  isplitl [H1]; · iexact H1
  isplitl [H2]; · iexact H2
  isplitl [H3]; · iexact H3
  isplitl [H7]; · iexact H7
  isplitl [H4]; · iexact H4
  isplitl [H5]; · iexact H5
  isplitl [H6]; · iexact H6
  iexact H8

/-- What is passed on along the first sweep. -/
def J0 (k : ℕ) : sProp 𝕄 := iprop(records X Y κ ∗ (oPts X c ∗ wPts Y c) ∗ ow c k)

/-- The first hop: the product, then the copy. -/
theorem first_turn (s : Fin 8) :
    iprop(J0 X Y κ c s.val ∗ anyB c (hb 0) s ∗ SG c 0 s ∗ DG c 0 s)
      ⊢ runs c (andThen (stepMul oM wM c 0 (hb 0) payT s (stores16 (hb_whole 0) s))
          (stepSend c 0 (hb 0) (hb 1) (hb_whole 0) (hb_whole 1) cc0_scratch5 cc0_scratch6 s))
          (fun _ => iprop(J0 X Y κ c (s.val + 1) ∗ cred (tallyAt (sendCell c 0 s) () N))) := by
  unfold J0
  iintro ⟨⟨#HR, HXY, HO⟩, Ha, HS, HD⟩
  iapply (runs_step (mul_runs X Y c 0 (hb 0) payT s (stores16 (hb_whole 0) s))) $$ [HXY Ha HO HS HD]
  isplitl [HXY Ha]
  · isplitl [HXY]; · iexact HXY
    iexact Ha
  iintro ⟨HXY, Hp⟩
  iapply (wp_wand frame (wpE (defs₀ (F := F)) 𝒱₀ c none) Set.univ
      (Q := fun _ => iprop(ow c (8 * (0 : Fin 3).val + s.val + 1) ∗ cred (tallyAt (sendCell c 0 s) () N)))) $$ [HO HS HD Hp]
  · iapply (send_turn X Y κ c 0 s)
    isplitr; · iexact HR
    isplitl [HO]
    · rw [show 8 * (0 : Fin 3).val + s.val = s.val from Nat.zero_add _]; iexact HO
    isplitl [Hp]; · iexact Hp
    isplitl [HS]; · iexact HS
    iexact HD
  iintro %a ⟨HO, Hc⟩
  rw [show 8 * (0 : Fin 3).val + s.val = s.val from Nat.zero_add _]
  isplitl [HXY HO]
  · isplitr; · iexact HR
    isplitl [HXY]; · iexact HXY
    iexact HO
  iexact Hc

/-- What is passed on along a later sweep. -/
def J1 (b k : ℕ) : sProp 𝕄 := iprop(records X Y κ ∗ ow c (b + k))

/-- A middle hop: the wait, the sum, the copy on. -/
theorem middle_turn (i : Fin 2) (s : Fin 8) :
    iprop(J1 X Y κ c (8 * (i.val + 1)) s.val ∗ RG c i.castSucc s ∗ ptsB c pM s (ownP X Y c i.succ.castSucc s) ∗ SG c i.succ s ∗ DG c i.succ s)
      ⊢ runs c (andThen (stepWait i.castSucc (hb i.castSucc.castSucc) (hb i.succ.castSucc) (hb_whole _) (hb_whole _) cc0_scratch6 s)
          (andThen (stepAdd (hb i.succ.castSucc) pM (hb i.succ.castSucc) payA s (stores16 (hb_whole _) s))
            (stepSend c i.succ (hb i.succ.castSucc) (hb i.succ.succ) (hb_whole _) (hb_whole _) cc0_scratch5 cc0_scratch6 s)))
          (fun _ => iprop(J1 X Y κ c (8 * (i.val + 1)) (s.val + 1)
            ∗ semVal (recvCell c i.castSucc s) 0 ∗ anyB c pM s ∗ cred (tallyAt (sendCell c i.succ s) () N))) := by
  have hrecv := recv_runs X Y κ c i.castSucc s (8 * (i.val + 1) + s.val) (Nat.le_add_right _ _)
  rw [Fin.succ_castSucc] at hrecv
  have hsent : payA (sent X Y i.castSucc.val (left c) s) (ownP X Y c i.succ.castSucc s) = sent X Y i.succ.val c s := by
    match i with
    | 0 => rfl
    | 1 => rfl
  unfold J1 RG
  iintro ⟨⟨#HR, HO⟩, ⟨Hc, Hat⟩, Hp, HS, HD⟩
  iapply (runs_step hrecv) $$ [HO Hc Hat Hp HS HD]
  isplitl [HO Hc Hat]
  · isplitr; · iexact HR
    isplitl [HO]; · iexact HO
    isplitl [Hc]; · iexact Hc
    iexact Hat
  iintro ⟨HO, Hv, Hb⟩
  iapply (runs_step (acc_runs c (hb i.succ.castSucc) pM payA s (stores16 (hb_whole _) s) _ _)) $$ [HO Hv Hb Hp HS HD]
  isplitl [Hb Hp]
  · isplitl [Hb]; · iexact Hb
    iexact Hp
  iintro ⟨Hb, Hp⟩
  rw [hsent]
  iapply (wp_wand frame (wpE (defs₀ (F := F)) 𝒱₀ c none) Set.univ
      (Q := fun _ => iprop(ow c (8 * i.succ.val + s.val + 1) ∗ cred (tallyAt (sendCell c i.succ s) () N)))) $$ [HO HS HD Hb]
  · iapply (send_turn X Y κ c i.succ s)
    isplitr; · iexact HR
    isplitl [HO]; · iexact HO
    isplitl [Hb]; · iexact Hb
    isplitl [HS]; · iexact HS
    iexact HD
  iintro %a ⟨HO, Hc⟩
  isplitl [HO]
  · isplitr; · iexact HR
    iexact HO
  isplitl [Hv]; · iexact Hv
  isplitl [Hp]; · iapply (ptsB_any c pM s _); iexact Hp
  iexact Hc

/-- The last hop: the wait, and the sum stored as the result. -/
theorem last_turn (s : Fin 8) :
    iprop(J1 X Y κ c 24 0 ∗ RG c 2 s ∗ ptsB c pM s (ownP X Y c 3 s) ∗ anyB c outM s)
      ⊢ runs c (andThen (stepWait 2 (hb 2) (hb 3) (hb_whole _) (hb_whole _) cc0_scratch6 s)
          (stepAdd (hb 3) pM outM payO s (View.stores_vmem_bits_univ h_S1x128x2048 rfl)))
          (fun _ => iprop(J1 X Y κ c 24 0
            ∗ semVal (recvCell c 2 s) 0 ∗ anyB c (hb 3) s ∗ anyB c pM s ∗ ptsB c outM s (result X Y c s))) := by
  unfold J1 RG
  iintro ⟨⟨#HR, HO⟩, ⟨Hc, Hat⟩, Hp, Ho⟩
  iapply (runs_step (recv_runs X Y κ c 2 s 24 (Nat.le_refl _))) $$ [HO Hc Hat Hp Ho]
  isplitl [HO Hc Hat]
  · isplitr; · iexact HR
    isplitl [HO]; · iexact HO
    isplitl [Hc]; · iexact Hc
    iexact Hat
  iintro ⟨HO, Hv, Hb⟩
  iapply (wp_wand frame (wpE (defs₀ (F := F)) 𝒱₀ c none) Set.univ
      (Q := fun _ => iprop(ptsB c (hb 3) s (sent X Y 2 (left c) s) ∗ ptsB c pM s (ownP X Y c 3 s) ∗ ptsB c outM s (result X Y c s)))) $$ [Hb Hp Ho]
  · iapply (add_runs c (hb 3) pM outM payO s (View.stores_vmem_bits_univ h_S1x128x2048 rfl) (sent X Y 2 (left c) s) (ownP X Y c 3 s))
    isplitl [Hb]; · iexact Hb
    isplitl [Hp]; · iexact Hp
    iexact Ho
  iintro %a ⟨Hb, Hp, Ho⟩
  isplitl [HO]
  · isplitr; · iexact HR
    iexact HO
  isplitl [Hv]; · iexact Hv
  isplitl [Hb]; · iapply (ptsB_any c (hb 3) s _); iexact Hb
  isplitl [Hp]; · iapply (ptsB_any c pM s _); iexact Hp
  iexact Ho

/-- At the end: the wait for a block sent. -/
theorem drain_turn (h : Fin 3) (s : Fin 8) :
    iprop(J1 X Y κ c 24 0 ∗ WG c h s)
      ⊢ runs c (stepWait h (hb h.succ) (hb h.castSucc) (hb_whole _) (hb_whole _) cc0_scratch5 s)
          (fun _ => iprop(J1 X Y κ c 24 0 ∗ semVal (sendCell c h s) 0 ∗ anyB c (hb h.castSucc) s)) := by
  unfold J1 WG
  iintro ⟨⟨#HR, HO⟩, Hc, Hat⟩
  iapply (wp_wand frame (wpE (defs₀ (F := F)) 𝒱₀ c none) Set.univ
      (Q := fun _ => iprop(ow c 24 ∗ semVal (sendCell c h s) 0 ∗ anyB c (hb h.castSucc) s))) $$ [HO Hc Hat]
  · iapply (sendWait_runs X Y κ c h s)
    isplitr; · iexact HR
    isplitl [HO]; · iexact HO
    isplitl [Hc]; · iexact Hc
    iexact Hat
  iintro %a ⟨HO, Hv, Hb⟩
  isplitl [HO]
  · isplitr; · iexact HR
    iexact HO
  isplitl [Hv]; · iexact Hv
  iexact Hb

/-! ## The barrier -/

/-- The signal to the left neighbour hands it this device's receive buffers. -/
theorem signal_left :
    iprop(records X Y κ ∗ (∃ W, owes (c : Thread nD τ) (O₀ c) W) ∗ dutyTok ER (barCell (left c)) 0 true ∗ reached ER (barCell (left c)) 0
        ∗ barPay (left c))
      ⊢ runs c (semSignalWord (left c) barS 1#32) (fun _ => iprop(∃ W, owes (c : Thread nD τ) (owed c 0 + tallyAt (barCell (right c)) () 1) W)) := by
  unfold runs
  iintro ⟨#HR, ⟨%W, HO⟩, Ht, Hr, Hb⟩
  iapply (Rounds.wp_signal 𝒱₀ ER (Rd X Y) (c : Thread nD τ) none (dst := (left c : Thread nD τ)) (sem := barS) (r := 0) (d := true) (κ := κ (barCell (left c)))
      (by rw [duties_bar]; decide) (amount_bar X Y (left c) true) () (owed c 0 + tallyAt (barCell (right c)) () 1) rfl)
    $$ [HO Ht Hr Hb]
  · isplitr; · iapply (records_cell X Y κ (left c, none)); iexact HR
    isplitl [HO]; · iexact HO
    isplitl [Ht]; · iexact Ht
    isplitl [Hb]; · rw [payload_barT]; iexact Hb
    iexact Hr
  iintro HO
  rw [wp_ret]; imodintro
  iexists W; iexact HO

/-- The signal to the right neighbour hands over nothing. -/
theorem signal_right :
    iprop(records X Y κ ∗ (∃ W, owes (c : Thread nD τ) (owed c 0 + tallyAt (barCell (right c)) () 1) W)
        ∗ dutyTok ER (barCell (right c)) 0 false ∗ reached ER (barCell (right c)) 0)
      ⊢ runs c (semSignalWord (right c) barS 1#32) (fun _ => ow c 0) := by
  unfold runs ow
  iintro ⟨#HR, ⟨%W, HO⟩, Ht, Hr⟩
  iapply (Rounds.wp_signal 𝒱₀ ER (Rd X Y) (c : Thread nD τ) none (dst := (right c : Thread nD τ)) (sem := barS) (r := 0) (d := false) (κ := κ (barCell (right c)))
      (by rw [duties_bar]; decide) (amount_bar X Y (right c) false) () (owed c 0) rfl)
    $$ [HO Ht Hr]
  · isplitr; · iapply (records_cell X Y κ (right c, none)); iexact HR
    isplitl [HO]; · iexact HO
    isplitl [Ht]; · iexact Ht
    isplitr; · rw [payload_barF]; iempintro
    iexact Hr
  iintro HO
  rw [wp_ret]; imodintro
  iexists W; iexact HO

/-- The barrier may be awaited while all the copies are owed. -/
theorem mayWait_bar : lvs (F := F) ⊢ MayWait (c : Thread nD τ) (.reg barS) () (owed c 0) := by
  have h1 : lvOf (role (.reg barS)) ≤ 1 := by rw [role_bar]; exact Nat.le_refl _
  exact mayWait_owed c _ 0 1 h1 (fun h' s' _ => by omega)

/-- The wait on the barrier gives the right neighbour's receive buffers. -/
theorem barrier_wait :
    iprop(records X Y κ ∗ ow c 0 ∗ cred (tallyAt (barCell c) () 2) ∗ atPos ER (barCell c) 0 ∅ 0)
      ⊢ runs c (semWaitWord barS 2#32) (fun _ => iprop(ow c 0 ∗ semVal (barCell c) 0 ∗ barPay c)) := by
  unfold runs ow
  iintro ⟨#HR, ⟨%W, HO⟩, Hc, Hat⟩
  ihave #HI := (records_cell X Y κ (c, none)) $$ HR
  iapply (Rounds.wp_wait_rest_token 𝒱₀ ER (Rd X Y) (c : Thread nD τ) none (κ := κ (barCell c))
      (wpE_semWait_eq 𝒱₀ (c : Thread nD τ) none Set.univ) (Set.mem_univ _) () (O := owed c 0) (W := W) (R := 0) (m := 0) (T := ∅)
      ((Nat.zero_add 2).trans (expect_bar X Y c).symm)) $$ [Hc HO Hat]
  · isplitr; · iexact HI
    isplitl [Hc]; · iexact Hc
    isplitl [HO]; · iexact HO
    isplitr
    · ihave Hl := (records_lev X Y κ) $$ HR
      iapply (mayWait_bar c); iexact Hl
    iexact Hat
  iintro ⟨HO, Hat, -, Hpay⟩
  ihave Hp := (rest_bar X Y c) $$ Hpay
  rw [wp_ret]
  imod (close_cell X Y (κ (barCell c)) (barCell c)) $$ [Hat] with Hv
  · isplitr; · iexact HI
    iexact Hat
  imodintro
  isplitl [HO]; · iexists _; iexact HO
  isplitl [Hv]; · iexact Hv
  iexact Hp

end turns

end Cert.KernelIdeal.Ring

end
-- ==== Proof.Whole.lean ====
module

public import proofs.«01_k».proof.Proof.Turns

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A chain over the hops, and one over the sub-blocks with the first apart. -/
theorem over_hops (Φ : Fin 3 → sProp 𝕄) : bigSepL hops Φ = iprop(Φ 0 ∗ Φ 1 ∗ Φ 2) := rfl
abbrev later : List (Fin 8) := [1, 2, 3, 4, 5, 6, 7]
/-- A product over the sub-blocks, the first one apart. -/
theorem over_subs (Φ : Fin 8 → sProp 𝕄) : bigSepL subs Φ = iprop(Φ 0 ∗ bigSepL later Φ) := rfl

section whole

variable (X : Dev nD → oM.view.ty.Contents (Elt F)) (Y : Dev nD → wM.view.ty.Contents (Elt F)) (κ : GSem nD τ sig → ℕ) (c : Dev nD)

/-- The first sweep of copies: each sub-block is multiplied and sent, the barrier awaited once. -/
theorem first_sweep (q : P F PUnit) (Q : PUnit → sProp 𝕄) :
    iprop((J0 X Y κ c 1 ∗ bigSepL later (anyB c (hb 0)) ∗ bigSepL later (SG c 0) ∗ bigSepL later (DG c 0))
        ∗ ((J0 X Y κ c 8 ∗ bigSepL later (fun s => cred (tallyAt (sendCell c 0 s) () N))) -∗ runs c q Q))
      ⊢ runs c (sweep (fun s => andThen (stepMul oM wM c 0 (hb 0) payT s (stores16 (hb_whole 0) s))
          (stepSend c 0 (hb 0) (hb 1) (hb_whole 0) (hb_whole 1) cc0_scratch5 cc0_scratch6 s)) later q) Q := by
  have h := runs_sweep _ q Q (J0 X Y κ c) _ _ (first_turn X Y κ c) later 1 7 rfl
  rw [bigSepL_pairs, bigSepL_pairs] at h
  exact h

/-- A sweep of own products fills the buffer of products. -/
theorem own_sweep (q : P F PUnit) (Q : PUnit → sProp 𝕄) (h : Fin 4) :
    iprop(((oPts X c ∗ wPts Y c) ∗ bigSepL subs (anyB c pM))
        ∗ (((oPts X c ∗ wPts Y c) ∗ bigSepL subs (fun s => ptsB c pM s (ownP X Y c h s))) -∗ runs c q Q))
      ⊢ runs c (sweep (stepOwn oM wM pM c h) subs q) Q :=
  runs_sweep _ q Q (fun _ => iprop(oPts X c ∗ wPts Y c)) _ _
    (fun s => mul_runs X Y c h pM payP s (View.stores_vmem_bits_univ h_S1x128x2048 rfl)) subs 0 8 rfl

/-- A middle sweep: each sub-block is awaited, added to and sent on. -/
theorem middle_sweep (q : P F PUnit) (Q : PUnit → sProp 𝕄) (i : Fin 2) :
    iprop((J1 X Y κ c (8 * (i.val + 1)) 0 ∗ bigSepL subs (RG c i.castSucc) ∗ bigSepL subs (fun s => ptsB c pM s (ownP X Y c i.succ.castSucc s))
          ∗ bigSepL subs (SG c i.succ) ∗ bigSepL subs (DG c i.succ))
        ∗ ((J1 X Y κ c (8 * (i.val + 1)) 8 ∗ bigSepL subs (fun s => semVal (recvCell c i.castSucc s) 0) ∗ bigSepL subs (anyB c pM)
            ∗ bigSepL subs (fun s => cred (tallyAt (sendCell c i.succ s) () N))) -∗ runs c q Q))
      ⊢ runs c (sweep (fun s => andThen (stepWait i.castSucc (hb i.castSucc.castSucc) (hb i.succ.castSucc) (hb_whole _) (hb_whole _) cc0_scratch6 s)
          (andThen (stepAdd (hb i.succ.castSucc) pM (hb i.succ.castSucc) payA s (stores16 (hb_whole _) s))
            (stepSend c i.succ (hb i.succ.castSucc) (hb i.succ.succ) (hb_whole _) (hb_whole _) cc0_scratch5 cc0_scratch6 s))) subs q) Q := by
  have h := runs_sweep _ q Q (J1 X Y κ c (8 * (i.val + 1))) _ _ (middle_turn X Y κ c i) subs 0 8 rfl
  rw [bigSepL_pairs, bigSepL_pairs, bigSepL_pairs, bigSepL_pairs, bigSepL_pairs] at h
  exact h

/-- The last sweep: each sub-block is awaited, added to and stored in the result. -/
theorem last_sweep (q : P F PUnit) (Q : PUnit → sProp 𝕄) :
    iprop((J1 X Y κ c 24 0 ∗ bigSepL subs (RG c 2) ∗ bigSepL subs (fun s => ptsB c pM s (ownP X Y c 3 s)) ∗ bigSepL subs (anyB c outM))
        ∗ ((J1 X Y κ c 24 0 ∗ bigSepL subs (fun s => semVal (recvCell c 2 s) 0) ∗ bigSepL subs (anyB c (hb 3)) ∗ bigSepL subs (anyB c pM)
            ∗ bigSepL subs (fun s => ptsB c outM s (result X Y c s))) -∗ runs c q Q))
      ⊢ runs c (sweep (fun s => andThen (stepWait 2 (hb 2) (hb 3) (hb_whole _) (hb_whole _) cc0_scratch6 s)
          (stepAdd (hb 3) pM outM payO s (View.stores_vmem_bits_univ h_S1x128x2048 rfl))) subs q) Q := by
  have h := runs_sweep _ q Q (fun _ => J1 X Y κ c 24 0) _ _ (last_turn X Y κ c) subs 0 8 rfl
  rw [bigSepL_pairs, bigSepL_pairs, bigSepL_pairs, bigSepL_pairs, bigSepL_pairs] at h
  exact h

/-- The sources of a hop's copies come back. -/
theorem drain_sweep (q : P F PUnit) (Q : PUnit → sProp 𝕄) (h : Fin 3) :
    iprop((J1 X Y κ c 24 0 ∗ bigSepL subs (fun s => cred (tallyAt (sendCell c h s) () N)) ∗ bigSepL subs (fun s => atPos ER (sendCell c h s) 0 ∅ 0))
        ∗ ((J1 X Y κ c 24 0 ∗ bigSepL subs (fun s => semVal (sendCell c h s) 0) ∗ bigSepL subs (anyB c (hb h.castSucc))) -∗ runs c q Q))
      ⊢ runs c (sweep (stepWait h (hb h.succ) (hb h.castSucc) (hb_whole _) (hb_whole _) cc0_scratch5) subs q) Q := by
  have h := runs_sweep _ q Q (fun _ => J1 X Y κ c 24 0) _ _ (drain_turn X Y κ c h) subs 0 8 rfl
  unfold WG at h
  rw [bigSepL_pairs, bigSepL_pairs] at h
  exact h

/-- What device `c` starts the body with. -/
def ringPre : sProp 𝕄 :=
  iprop((∃ W, owes (c : Thread nD τ) (O₀ c) W)
    ∗ (dutyTok ER (barCell (left c)) 0 true ∗ reached ER (barCell (left c)) 0 ∗ dutyTok ER (barCell (right c)) 0 false ∗ reached ER (barCell (right c)) 0)
    ∗ (cred (tallyAt (barCell c) () 2) ∗ atPos ER (barCell c) 0 ∅ 0)
    ∗ barPay (left c)
    ∗ (oPts X c ∗ wPts Y c)
    ∗ bigSepL subs (anyB c (hb 0)) ∗ bigSepL subs (anyB c pM) ∗ bigSepL subs (anyB c outM)
    ∗ bigSepL hops (fun h => bigSepL subs (SG c h))
    ∗ bigSepL hops (fun h => bigSepL subs (RG c h))
    ∗ bigSepL hops (fun h => bigSepL subs (fun s => atPos ER (sendCell c h s) 0 ∅ 0)))

/-- What it ends with: every counter back at zero, every buffer back, the result in place, nothing owed. -/
def ringPost : sProp 𝕄 :=
  iprop(ow c 24
    ∗ (oPts X c ∗ wPts Y c)
    ∗ semVal (barCell c) 0
    ∗ bigSepL hops (fun h => bigSepL subs (fun s => semVal (sendCell c h s) 0))
    ∗ bigSepL hops (fun h => bigSepL subs (fun s => semVal (recvCell c h s) 0))
    ∗ bigSepL hops (fun h => bigSepL subs (anyB c (hb h.castSucc)))
    ∗ bigSepL subs (anyB c (hb 3)) ∗ bigSepL subs (anyB c pM)
    ∗ bigSepL subs (fun s => ptsB c outM s (result X Y c s)))

/-- The receive buffers, hop by hop and sub-block by sub-block. -/
theorem barPay_eq : barPay (F := F) c = bigSepL hops (fun h => bigSepL subs (DG c h)) := rfl

/-- The whole body runs, and leaves the result's sub-blocks. -/
theorem ring_runs :
    iprop(records X Y κ ∗ ringPre X Y c)
      ⊢ runs c (ring oM wM outM (hb 0) (hb_whole 0) (hb 1) (hb_whole 1) (hb 2) (hb_whole 2) (hb 3) (hb_whole 3) pM cc0_scratch5 cc0_scratch6 c)
          (fun _ => ringPost X Y c) := by
  unfold ring ringPre
  rw [over_hops, over_hops, over_hops, over_subs (anyB c (hb 0)), over_subs (SG c 0)]
  iintro ⟨#HR, HO, ⟨HtL, HrL, HtR, HrR⟩, ⟨Hcb, Hab⟩, HbL, HXY, ⟨Ha0, Ha⟩, Hp, Ho, ⟨⟨HS0, HS⟩, HS1, HS2⟩, ⟨HR0, HR1, HR2⟩, HA0, HA1, HA2⟩
  iapply (runs_step (signal_left X Y κ c)) $$ [-]
  isplitl [HO HtL HrL HbL]
  · isplitr; · iexact HR
    isplitl [HO]; · iexact HO
    isplitl [HtL]; · iexact HtL
    isplitl [HrL]; · iexact HrL
    iexact HbL
  iintro HO
  iapply (runs_step (signal_right X Y κ c)) $$ [-]
  isplitl [HO HtR HrR]
  · isplitr; · iexact HR
    isplitl [HO]; · iexact HO
    isplitl [HtR]; · iexact HtR
    iexact HrR
  iintro HO
  iapply (runs_step (mul_runs X Y c 0 (hb 0) payT 0 (stores16 (hb_whole 0) 0))) $$ [-]
  isplitl [HXY Ha0]
  · isplitl [HXY]; · iexact HXY
    iexact Ha0
  iintro ⟨HXY, Ha0⟩
  iapply (runs_step (barrier_wait X Y κ c)) $$ [-]
  isplitl [HO Hcb Hab]
  · isplitr; · iexact HR
    isplitl [HO]; · iexact HO
    isplitl [Hcb]; · iexact Hcb
    iexact Hab
  rw [barPay_eq, over_hops, over_subs (DG c 0)]
  iintro ⟨HO, Hvb, ⟨HD0, HD⟩, HD1, HD2⟩
  iapply (runs_step (send_turn X Y κ c 0 0)) $$ [-]
  isplitl [HO Ha0 HS0 HD0]
  · isplitr; · iexact HR
    isplitl [HO]; · iexact HO
    isplitl [Ha0]; · iexact Ha0
    isplitl [HS0]; · iexact HS0
    iexact HD0
  iintro ⟨HO, HC0⟩
  iapply (first_sweep X Y κ c _ _) $$ [-]
  isplitl [HXY HO Ha HS HD]
  · isplitl [HXY HO]
    · unfold J0
      isplitr; · iexact HR
      isplitl [HXY]; · iexact HXY
      iexact HO
    isplitl [Ha]; · iexact Ha
    isplitl [HS]; · iexact HS
    iexact HD
  iintro ⟨HJ, HC⟩
  unfold J0
  icases HJ with ⟨-, HXY, HO⟩
  iapply (own_sweep X Y c _ _ 1) $$ [-]
  isplitl [HXY Hp]
  · isplitl [HXY]; · iexact HXY
    iexact Hp
  iintro ⟨HXY, Hp⟩
  iapply (middle_sweep X Y κ c _ _ 0) $$ [-]
  isplitl [HO HR0 Hp HS1 HD1]
  · isplitl [HO]
    · unfold J1
      isplitr; · iexact HR
      iexact HO
    isplitl [HR0]; · iexact HR0
    isplitl [Hp]; · iexact Hp
    isplitl [HS1]; · iexact HS1
    iexact HD1
  iintro ⟨HJ, HV0, Hp, HC1⟩
  iapply (own_sweep X Y c _ _ 2) $$ [-]
  isplitl [HXY Hp]
  · isplitl [HXY]; · iexact HXY
    iexact Hp
  iintro ⟨HXY, Hp⟩
  unfold J1
  icases HJ with ⟨-, HO⟩
  iapply (middle_sweep X Y κ c _ _ 1) $$ [-]
  isplitl [HO HR1 Hp HS2 HD2]
  · isplitl [HO]
    · unfold J1
      isplitr; · iexact HR
      iexact HO
    isplitl [HR1]; · iexact HR1
    isplitl [Hp]; · iexact Hp
    isplitl [HS2]; · iexact HS2
    iexact HD2
  iintro ⟨HJ, HV1, Hp, HC2⟩
  iapply (own_sweep X Y c _ _ 3) $$ [-]
  isplitl [HXY Hp]
  · isplitl [HXY]; · iexact HXY
    iexact Hp
  iintro ⟨HXY, Hp⟩
  unfold J1
  icases HJ with ⟨-, HO⟩
  iapply (last_sweep X Y κ c _ _) $$ [-]
  isplitl [HO HR2 Hp Ho]
  · isplitl [HO]
    · unfold J1
      isplitr; · iexact HR
      iexact HO
    isplitl [HR2]; · iexact HR2
    isplitl [Hp]; · iexact Hp
    iexact Ho
  iintro ⟨HJ, HV2, Hb3, Hp, Ho⟩
  iapply (drain_sweep X Y κ c _ _ 0) $$ [-]
  isplitl [HJ HC0 HC HA0]
  · isplitl [HJ]; · iexact HJ
    isplitl [HC0 HC]
    · rw [over_subs]
      isplitl [HC0]; · iexact HC0
      iexact HC
    iexact HA0
  iintro ⟨HJ, HW0, Hb0⟩
  iapply (drain_sweep X Y κ c _ _ 1) $$ [-]
  isplitl [HJ HC1 HA1]
  · isplitl [HJ]; · iexact HJ
    isplitl [HC1]; · iexact HC1
    iexact HA1
  iintro ⟨HJ, HW1, Hb1⟩
  iapply (drain_sweep X Y κ c _ _ 2) $$ [-]
  isplitl [HJ HC2 HA2]
  · isplitl [HJ]; · iexact HJ
    isplitl [HC2]; · iexact HC2
    iexact HA2
  iintro ⟨HJ, HW2, Hb2⟩
  unfold J1
  icases HJ with ⟨-, HO⟩
  unfold runs
  rw [show (pure ⟨⟩ : P F PUnit) = .ret ⟨⟩ from rfl, wp_ret]
  imodintro
  unfold ringPost
  rw [over_hops, over_hops, over_hops]
  isplitl [HO]; · iexact HO
  isplitl [HXY]; · iexact HXY
  isplitl [Hvb]; · iexact Hvb
  isplitl [HW0 HW1 HW2]
  · isplitl [HW0]; · iexact HW0
    isplitl [HW1]; · iexact HW1
    iexact HW2
  isplitl [HV0 HV1 HV2]
  · isplitl [HV0]; · iexact HV0
    isplitl [HV1]; · iexact HV1
    iexact HV2
  isplitl [Hb0 Hb1 Hb2]
  · isplitl [Hb0]; · iexact Hb0
    isplitl [Hb1]; · iexact Hb1
    iexact Hb2
  isplitl [Hb3]; · iexact Hb3
  isplitl [Hp]; · iexact Hp
  iexact Ho

end whole

end Cert.KernelIdeal.Ring

end
-- ==== Proof.Split.lean ====
module

public import proofs.«01_k».proof.Proof.Sched
public import Idealize.SL.ProofMode.BigOp

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A buffer and its eight sub-blocks -/

/-- An index lies in sub-block `s` iff its batch entry and its row do. -/
theorem mem_rect (s : Fin 8) (i : S4x256x2048.Idx) :
    i ∈ (rect s).set ↔ (i (0 : Fin 3)).val = s.val / 2 ∧ (i (1 : Fin 3)).val / 128 = s.val % 2 := by
  rw [Rect.mem_set_unit]
  have h2 : (i (2 : Fin 3)).val < 2048 := (i (2 : Fin 3)).isLt
  constructor
  · intro h
    have a0 : s.val / 2 ≤ (i (0 : Fin 3)).val ∧ (i (0 : Fin 3)).val < s.val / 2 + 1 := h (0 : Fin 3)
    have a1 : 128 * (s.val % 2) ≤ (i (1 : Fin 3)).val ∧ (i (1 : Fin 3)).val < 128 * (s.val % 2) + 128 := h (1 : Fin 3)
    omega
  · rintro ⟨h0, h1⟩ a
    match a with
    | 0 => show s.val / 2 ≤ (i (0 : Fin 3)).val ∧ (i (0 : Fin 3)).val < s.val / 2 + 1; omega
    | 1 => show 128 * (s.val % 2) ≤ (i (1 : Fin 3)).val ∧ (i (1 : Fin 3)).val < 128 * (s.val % 2) + 128; omega
    | 2 => show 0 ≤ (i (2 : Fin 3)).val ∧ (i (2 : Fin 3)).val < 0 + 2048; omega

/-- The sub-block an index lies in. -/
def subOf (i : S4x256x2048.Idx) : Fin 8 :=
  ⟨2 * (i (0 : Fin 3)).val + (i (1 : Fin 3)).val / 128, by
    have h0 : (i (0 : Fin 3)).val < 4 := (i (0 : Fin 3)).isLt
    have h1 : (i (1 : Fin 3)).val < 256 := (i (1 : Fin 3)).isLt
    omega⟩

/-- An index lies in its sub-block. -/
theorem mem_rect_subOf (i : S4x256x2048.Idx) : i ∈ (rect (subOf i)).set := by
  have h1 : (i (1 : Fin 3)).val < 256 := (i (1 : Fin 3)).isLt
  rw [mem_rect]; unfold subOf; dsimp only; omega

/-- Different sub-blocks have no index in common. -/
theorem rect_disjoint {s t : Fin 8} (h : s ≠ t) : Disjoint (rect s).set (rect t).set := by
  rw [Finset.disjoint_left]
  intro i hs ht
  rw [mem_rect] at hs ht
  exact h (Fin.ext (by omega))

/-- Parts of a location that cover it, each at contents with a property of its own, are the location at contents that
    agree on each part with some that have the part's property. -/
theorem join_parts {ℓ : Loc nD τ sig} (K : Fin 8 → Finset (Idx ℓ)) (f₀ : Buf (Elt F) ℓ) (φ : Fin 8 → Buf (Elt F) ℓ → Prop)
    (hd : ∀ s ∈ (Finset.univ : Finset (Fin 8)), ∀ t ∈ (Finset.univ : Finset (Fin 8)), s ≠ t → Disjoint (K s) (K t))
    (hc : (Finset.univ : Finset (Fin 8)).biUnion K = Finset.univ) :
    (bigSep Finset.univ (fun s => iprop(∃ f, ⌜φ s f⌝ ∗ ℓ ↦[K s]{fullShare} f)) : sProp 𝕄)
      ⊢ iprop(∃ f, ⌜∀ s, ∃ g, φ s g ∧ ∀ i ∈ K s, f i = g i⌝ ∗ ℓ ↦{fullShare} f) := by
  have : Nonempty (Buf (Elt F) ℓ) := ⟨f₀⟩
  have h := (bigSep_exists_pi (Finset.univ : Finset (Fin 8))
    (fun s (f : Buf (Elt F) ℓ) => (iprop(⌜φ s f⌝ ∗ ℓ ↦[K s]{fullShare} f) : sProp 𝕄)))
  have h2 (fs : Fin 8 → Buf (Elt F) ℓ) :
      (bigSep Finset.univ (fun s => (ℓ ↦[K s]{fullShare} fs s)) : sProp 𝕄)
        ⊢ iprop(∃ g, ⌜∀ s ∈ (Finset.univ : Finset (Fin 8)), ∀ i ∈ K s, g i = fs s i⌝ ∗ ℓ ↦{fullShare} g) := by
    have h3 := pointsTo_biUnion_join (Ix := Unit) (Name := ℕ) (U := UU) (Lvl := ℕ) (q := fullShare) Finset.univ K fs f₀ hd
    rw [hc] at h3
    exact h3
  refine h.trans ?_
  iintro ⟨%fs, H⟩
  ihave H' := (bigSep_pure_sep (Finset.univ : Finset (Fin 8)) (fun s => φ s (fs s)) (fun s => (ℓ ↦[K s]{fullShare} fs s : sProp 𝕄))) $$ H
  icases H' with ⟨%hfs, H⟩
  ihave H' := (h2 fs) $$ H
  icases H' with ⟨%f, %hf, H⟩
  iexists f
  isplitr
  · ipureintro
    exact fun s => ⟨fs s, hfs s (Finset.mem_univ s), hf s (Finset.mem_univ s)⟩
  iexact H

section split

variable {e : EltTy} (c : Dev nD) (b : Memref sig .tc .vmem S4x256x2048 e)

/-- The elements of sub-block `s`. -/
abbrev part (s : Fin 8) : Finset b.view.ty.Idx := (b.view.slice (rect s)).set

/-- So the parts of a buffer are disjoint -/
theorem part_disjoint (s : Fin 8) (_ : s ∈ (Finset.univ : Finset (Fin 8))) (t : Fin 8) (_ : t ∈ (Finset.univ : Finset (Fin 8))) (h : s ≠ t) :
    Disjoint (part b s) (part b t) := by
  rw [part, part, View.set_slice, View.set_slice]
  exact (Finset.disjoint_map _).mpr (rect_disjoint h)

/-- and cover it. -/
theorem part_cover (hb : b.view.set = Finset.univ) : (Finset.univ : Finset (Fin 8)).biUnion (part b) = Finset.univ := by
  refine Finset.eq_univ_of_forall fun i => ?_
  have hi : i ∈ b.view.set := by rw [hb]; exact Finset.mem_univ _
  obtain ⟨j, -, rfl⟩ := Finset.mem_map.mp hi
  refine Finset.mem_biUnion.mpr ⟨subOf j, Finset.mem_univ _, ?_⟩
  rw [part, View.set_slice]
  exact Finset.mem_map_of_mem _ (mem_rect_subOf j)

/-- A whole buffer, at some contents, is its eight sub-blocks. -/
theorem split_any (hb : b.view.set = Finset.univ) :
    iprop(∃ f, b.view.loc (c : Thread nD τ) ↦{fullShare} f) ⊢ (bigSepL subs (anyB c b) : sProp 𝕄) := by
  rw [← bigSep_univ_eq_bigSepL subs (by decide) (by decide)]
  iintro ⟨%f, H⟩
  have h : (b.view.loc (c : Thread nD τ) ↦{fullShare} f : sProp 𝕄) ⊢ bigSep Finset.univ (anyB c b) := by
    rw [← part_cover b hb, pointsTo_biUnion _ _ (part_disjoint b)]
    have hs (s : Fin 8) : (b.view.loc (c : Thread nD τ) ↦[part b s]{fullShare} f : sProp 𝕄) ⊢ anyB c b s := by
      unfold anyB; iintro H; iexists f; iexact H
    exact bigSep_mono fun s _ => hs s
  iapply h; iexact H

/-- Eight sub-blocks that read given values are the whole buffer at contents that read them. -/
theorem join_pts (hb : b.view.set = Finset.univ) (g : Fin 8 → Vec F S1x128x2048 e) (f₀ : b.view.ty.Contents (Elt F)) :
    (bigSepL subs (fun s => ptsB c b s (g s)) : sProp 𝕄)
      ⊢ iprop(∃ f, ⌜∀ s, (b.access (rect s)).read (Elt F) f = g s⌝ ∗ b.view.loc (c : Thread nD τ) ↦{fullShare} f) := by
  rw [← bigSep_univ_eq_bigSepL subs (by decide) (by decide)]
  have h := join_parts (F := F) (ℓ := b.view.loc (c : Thread nD τ)) (part b) f₀ (fun s f => (b.access (rect s)).read (Elt F) f = g s)
    (part_disjoint b) (part_cover b hb)
  iintro H
  ihave H' := h $$ [H]; · iexact H
  icases H' with ⟨%f, %hf, H⟩
  iexists f
  isplitr
  · ipureintro
    intro s
    obtain ⟨k, hk, hi⟩ := hf s
    rw [← hk]
    exact View.read_congr hi
  iexact H

/-- The same of sub-blocks at any contents. -/
theorem join_any (hb : b.view.set = Finset.univ) (f₀ : b.view.ty.Contents (Elt F)) :
    (bigSepL subs (anyB c b) : sProp 𝕄) ⊢ iprop(∃ f, b.view.loc (c : Thread nD τ) ↦{fullShare} f) := by
  rw [← bigSep_univ_eq_bigSepL subs (by decide) (by decide)]
  have h := join_parts (F := F) (ℓ := b.view.loc (c : Thread nD τ)) (part b) f₀ (fun _ _ => True) (part_disjoint b) (part_cover b hb)
  have h1 (s : Fin 8) : (anyB c b s : sProp 𝕄) ⊢ iprop(∃ f, ⌜True⌝ ∗ b.view.loc (c : Thread nD τ) ↦[part b s]{fullShare} f) := by
    unfold anyB; iintro ⟨%f, H⟩; iexists f; isplitr; · ipureintro; trivial
    iexact H
  have h2 : (bigSep Finset.univ (anyB c b) : sProp 𝕄)
      ⊢ bigSep Finset.univ (fun s => iprop(∃ f, ⌜True⌝ ∗ b.view.loc (c : Thread nD τ) ↦[part b s]{fullShare} f)) :=
    bigSep_mono fun s _ => h1 s
  iintro H
  ihave H' := h2 $$ H
  ihave H'' := h $$ [H']; · iexact H'
  icases H'' with ⟨%f, -, H⟩
  iexists f; iexact H

end split

end Cert.KernelIdeal.Ring

end
-- ==== Proof.Region.lean ====
module

public import proofs.«01_k».proof.Proof.Whole
public import proofs.«01_k».proof.Proof.Split
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The result block -/

section out

variable (X : Dev nD → oM.view.ty.Contents (Elt F)) (Y : Dev nD → wM.view.ty.Contents (Elt F))

/-- An index within its sub-block. -/
def inSub (i : S4x256x2048.Idx) : S1x128x2048.Idx :=
  fun | 0 => ⟨0, Nat.one_pos⟩ | 1 => ⟨(i (1 : Fin 3)).val % 128, Nat.mod_lt _ (by decide)⟩ | 2 => ⟨(i (2 : Fin 3)).val, (i (2 : Fin 3)).isLt⟩

/-- An index is the place in its sub-block of that sub-block's rectangle. -/
theorem rect_inSub (i : S4x256x2048.Idx) : (rect (subOf i)).emb (inSub i) = i := by
  have h0 : (i (0 : Fin 3)).val < 4 := (i (0 : Fin 3)).isLt
  have h1 : (i (1 : Fin 3)).val < 256 := (i (1 : Fin 3)).isLt
  funext a
  apply Fin.ext
  rw [Rect.emb_apply]
  match a with
  | 0 => show (2 * (i (0 : Fin 3)).val + (i (1 : Fin 3)).val / 128) / 2 + 1 * 0 = (i (0 : Fin 3)).val; omega
  | 1 => show 128 * ((2 * (i (0 : Fin 3)).val + (i (1 : Fin 3)).val / 128) % 2) + 1 * ((i (1 : Fin 3)).val % 128) = (i (1 : Fin 3)).val; omega
  | 2 => show 0 + 1 * (i (2 : Fin 3)).val = (i (2 : Fin 3)).val; omega

/-- What device `c`'s result block holds at the end, element by element. -/
def OUT (c : Dev nD) : Vec F S4x256x2048 .f32 := fun i => result X Y c (subOf i) (inSub i)

/-- A result buffer whose eight sub-blocks are the stored values holds `OUT`. -/
theorem eq_OUT (c : Dev nD) (f : outM.view.ty.Contents (Elt F))
    (h : ∀ s, (outM.access (rect s)).read (Elt F) f = result X Y c s) : f = OUT X Y c := by
  funext i
  have := congrFun (h (subOf i)) (inSub i)
  rw [View.read_apply] at this
  unfold OUT
  rw [← this]
  show f i = f ((rect (subOf i)).emb (inSub i))
  rw [rect_inSub]

end out

variable (m : (ℓ : Loc nD τ sig) → Buf (Elt F) ℓ)

/-- What a device's two operands hold when the kernel runs. -/
def Xof (c : Dev nD) : oM.view.ty.Contents (Elt F) := V m c main_v1
def Yof (c : Dev nD) : wM.view.ty.Contents (Elt F) := V m c main_arg1

/-- The first window's block is the whole reshaped operand, -/
theorem iblk0 (c : Dev nD) (t : Fin cfg0.N) : iblk m c 0 t = Xof m c := by
  obtain rfl := fin_N0 t
  funext i
  refine congrArg (V m c main_v1) (funext fun a => Fin.ext ?_)
  exact Pipeline.Window.rect_emb_val_of_index_zero win0_0 t0_0 a rfl i

/-- the second's the whole of `Wo`. -/
theorem iblk1 (c : Dev nD) (t : Fin cfg0.N) : iblk m c 1 t = Yof m c := by
  obtain rfl := fin_N0 t
  funext i
  refine congrArg (V m c main_arg1) (funext fun a => Fin.ext ?_)
  exact Pipeline.Window.rect_emb_val_of_index_zero win0_1 t0_0 a rfl i

/-! ## The region's invariant -/

/-- A device's own semaphores of the ring: a send or a receive, its hop and its sub-block. -/
abbrev Own : Type := Bool × Fin 3 × Fin 8
abbrev osem (k : Own) : SemLoc sig := siteSem (some k)

/-- What device `c` enters the kernel with beside its buffers: the duties it pays, the positions it waits from, and the
    credit it waits with. -/
def entry (c : Dev nD) : sProp 𝕄 :=
  iprop((dutyTok ER (barCell (left c)) 0 true ∗ reached ER (barCell (left c)) 0 ∗ dutyTok ER (barCell (right c)) 0 false ∗ reached ER (barCell (right c)) 0)
    ∗ (cred (tallyAt (barCell c) () 2) ∗ atPos ER (barCell c) 0 ∅ 0)
    ∗ bigSepL hops (fun h => bigSepL subs (fun s => reached ER (recvCell c h s) 0))
    ∗ bigSepL hops (fun h => bigSepL subs (SG c h)) ∗ bigSepL hops (fun h => bigSepL subs (RG c h))
    ∗ bigSepL hops (fun h => bigSepL subs (fun s => atPos ER (sendCell c h s) 0 ∅ 0)))

def Xk (c : Dev nD) : sProp 𝕄 := iprop((∃ κ, records (Xof m) (Yof m) κ) ∗ entry c)
abbrev Yk (c : Dev nD) : sProp 𝕄 := semVal (barCell c) 0

/-- The five scratch buffers, at contents not chosen. -/
abbrev scratch (c : Dev nD) : sProp 𝕄 := Pipeline.scopedRest spec0 c

def dat (c : Dev nD) : Dat τ (Elt F) Unit ℕ UU ℕ cfg0 c where
  A w := V m c (Pipeline.arrRef spec0 w)
  after w t := match w with
    | 0 => iblk m c 0 t
    | 1 => iblk m c 1 t
    | 2 => OUT (Xof m) (Yof m) c
  Φ t := if t.val = 0 then iprop(Xk m c ∗ scratch c ∗ ∃ r, prngReg c r)
    else iprop(Yk c ∗ Pipeline.ownSems0 osem c ∗ scratch c ∗ ∃ r, prngReg c r)
  q _ := fullShare
  owed t := if t.val = 0 then O₀ c else 0

/-- The body finds the reshaped operand in the first window -/
theorem before0 (c : Dev nD) (t : Fin cfg0.N) (d) : (dat m c).before 0 t d = Xof m c :=
  (((dat m c).before_in_eq_fetched 0 rfl (fun _ => rfl) (fun _ _ _ => rfl) (fun t => by unfold Dat.blockOf; rfl) t d).trans
    (by unfold Dat.fetched Dat.blockOf; rfl)).trans (iblk0 m c t)

/-- and `Wo` in the second. -/
theorem before1 (c : Dev nD) (t : Fin cfg0.N) (d) : (dat m c).before 1 t d = Yof m c :=
  (((dat m c).before_in_eq_fetched 1 rfl (fun _ => rfl) (fun _ _ _ => rfl) (fun t => by unfold Dat.blockOf; rfl) t d).trans
    (by unfold Dat.fetched Dat.blockOf; rfl)).trans (iblk1 m c t)

/-! ## The chains, hop by hop and sub-block by sub-block -/

/-- A product over hops and sub-blocks, hop by hop. -/
theorem bigSep_sites (Φ : Fin 3 × Fin 8 → sProp 𝕄) :
    bigSep Finset.univ Φ = bigSepL hops (fun h => bigSepL subs (fun s => Φ (h, s))) := by
  rw [bigSep_univ_prod, bigSep_univ_eq_bigSepL hops (by decide) (by decide)]
  refine congrArg (bigSepL hops) (funext fun h => ?_)
  rw [bigSep_univ_eq_bigSepL subs (by decide) (by decide)]

/-- A product over a device's copy cells is one over the receive cells and one over the send cells. -/
theorem bigSep_own (Φ : Own → sProp 𝕄) :
    bigSep Finset.univ Φ = iprop(bigSepL hops (fun h => bigSepL subs (fun s => Φ (true, h, s)))
      ∗ bigSepL hops (fun h => bigSepL subs (fun s => Φ (false, h, s)))) := by
  rw [bigSep_univ_prod, bigSep_univ_eq_bigSepL [true, false] (by decide) (by decide), bigSepL_cons']
  exact congrArg₂ _ (bigSep_sites _) (bigSep_sites _)

/-- Two such products side by side are one of pairs. -/
theorem pairs_over (Φ Ψ : Fin 3 → Fin 8 → sProp 𝕄) :
    bigSepL hops (fun h => bigSepL subs (fun s => iprop(Φ h s ∗ Ψ h s)))
      = iprop(bigSepL hops (fun h => bigSepL subs (Φ h)) ∗ bigSepL hops (fun h => bigSepL subs (Ψ h))) := by
  rw [← bigSepL_pairs]
  refine congrArg (bigSepL hops) (funext fun h => ?_)
  rw [bigSepL_pairs]

/-- A device's scoped semaphores are its receive and its send counters, all at zero. -/
theorem ownSems_eq (c : Dev nD) : (Pipeline.ownSems0 osem c : sProp 𝕄)
    = iprop(bigSepL hops (fun h => bigSepL subs (fun s => semVal (recvCell c h s) 0))
      ∗ bigSepL hops (fun h => bigSepL subs (fun s => semVal (sendCell c h s) 0))) :=
  bigSep_own (fun k => (semVal ((c : Thread nD τ), osem k) 0 : sProp 𝕄))

/-- Before the kernel: the scratch buffers are cut into sub-blocks. -/
theorem pre_intro (c : Dev nD) :
    iprop(entry c ∗ (∃ W, owes (c : Thread nD τ) (O₀ c) W) ∗ scratch c ∗ (oPts (Xof m) c ∗ wPts (Yof m) c)
      ∗ (∃ f, outM.view.loc (c : Thread nD τ) ↦{fullShare} f)) ⊢ ringPre (Xof m) (Yof m) c := by
  unfold entry ringPre scratch
  rw [scopedRest0_eq, show barPay (F := F) (left c) = iprop(bigSepL hops (fun h => bigSepL subs (anyB c (hb h.succ)))
      ∗ bigSepL hops (fun h => bigSepL subs (fun s => reached ER (recvCell c h s) 0))) from by
    rw [← pairs_over]; unfold barPay; rw [right_left]]
  iintro ⟨⟨Htok, Hbar, Hre, HS, HR, HA⟩, HO, ⟨H0, H1, H2, H3, H4⟩, HXY, Ho⟩
  have h0 : (iprop(∃ f, (c : Thread nD τ).loc cc0_scratch0 ↦{fullShare} f) : sProp 𝕄) ⊢ bigSepL subs (anyB c (hb 0)) := split_any c (hb 0) (View.set_whole _)
  have h1 : (iprop(∃ f, (c : Thread nD τ).loc cc0_scratch1 ↦{fullShare} f) : sProp 𝕄) ⊢ bigSepL subs (anyB c (hb 1)) := split_any c (hb 1) (View.set_whole _)
  have h2 : (iprop(∃ f, (c : Thread nD τ).loc cc0_scratch2 ↦{fullShare} f) : sProp 𝕄) ⊢ bigSepL subs (anyB c (hb 2)) := split_any c (hb 2) (View.set_whole _)
  have h3 : (iprop(∃ f, (c : Thread nD τ).loc cc0_scratch3 ↦{fullShare} f) : sProp 𝕄) ⊢ bigSepL subs (anyB c (hb 3)) := split_any c (hb 3) (View.set_whole _)
  have h4 : (iprop(∃ f, (c : Thread nD τ).loc cc0_scratch4 ↦{fullShare} f) : sProp 𝕄) ⊢ bigSepL subs (anyB c pM) := split_any c pM (View.set_whole _)
  ihave H0 := h0 $$ H0
  ihave H1 := h1 $$ H1
  ihave H2 := h2 $$ H2
  ihave H3 := h3 $$ H3
  ihave H4 := h4 $$ H4
  ihave Ho := (split_any c outM (View.set_whole _)) $$ Ho
  isplitl [HO]; · iexact HO
  isplitl [Htok]; · iexact Htok
  isplitl [Hbar]; · iexact Hbar
  isplitl [H1 H2 H3 Hre]
  · isplitl [H1 H2 H3]
    · rw [over_hops]
      isplitl [H1]; · iexact H1
      isplitl [H2]; · iexact H2
      iexact H3
    iexact Hre
  isplitl [HXY]; · iexact HXY
  isplitl [H0]; · iexact H0
  isplitl [H4]; · iexact H4
  isplitl [Ho]; · iexact Ho
  isplitl [HS]; · iexact HS
  isplitl [HR]; · iexact HR
  iexact HA

/-- After it: the buffers are whole again, and the result block holds the result. -/
theorem post_elim (c : Dev nD) (f0 : (hb 0).view.ty.Contents (Elt F)) (f4 : pM.view.ty.Contents (Elt F)) :
    ringPost (Xof m) (Yof m) c ⊢ iprop((∃ W, owes (c : Thread nD τ) (0 : CellTallies nD τ sig Unit) W) ∗ (oPts (Xof m) c ∗ wPts (Yof m) c)
      ∗ Yk c ∗ Pipeline.ownSems0 osem c ∗ scratch c ∗ (outM.view.loc (c : Thread nD τ) ↦{fullShare} OUT (Xof m) (Yof m) c)) := by
  unfold ringPost scratch ow
  rw [scopedRest0_eq, ownSems_eq, owed_end, show bigSepL hops (fun h => bigSepL subs (anyB (F := F) c (hb h.castSucc)))
      = iprop(bigSepL subs (anyB c (hb 0)) ∗ bigSepL subs (anyB c (hb 1)) ∗ bigSepL subs (anyB c (hb 2))) from rfl]
  iintro ⟨HO, HXY, Hb, HS, HR, ⟨H0, H1, H2⟩, H3, H4, Ho⟩
  have j0 : (bigSepL subs (anyB c (hb 0)) : sProp 𝕄) ⊢ iprop(∃ f, (c : Thread nD τ).loc cc0_scratch0 ↦{fullShare} f) := join_any c (hb 0) (View.set_whole _) f0
  have j1 : (bigSepL subs (anyB c (hb 1)) : sProp 𝕄) ⊢ iprop(∃ f, (c : Thread nD τ).loc cc0_scratch1 ↦{fullShare} f) := join_any c (hb 1) (View.set_whole _) f0
  have j2 : (bigSepL subs (anyB c (hb 2)) : sProp 𝕄) ⊢ iprop(∃ f, (c : Thread nD τ).loc cc0_scratch2 ↦{fullShare} f) := join_any c (hb 2) (View.set_whole _) f0
  have j3 : (bigSepL subs (anyB c (hb 3)) : sProp 𝕄) ⊢ iprop(∃ f, (c : Thread nD τ).loc cc0_scratch3 ↦{fullShare} f) := join_any c (hb 3) (View.set_whole _) f0
  have j4 : (bigSepL subs (anyB c pM) : sProp 𝕄) ⊢ iprop(∃ f, (c : Thread nD τ).loc cc0_scratch4 ↦{fullShare} f) := join_any c pM (View.set_whole _) f4
  ihave H0 := j0 $$ H0
  ihave H1 := j1 $$ H1
  ihave H2 := j2 $$ H2
  ihave H3 := j3 $$ H3
  ihave H4 := j4 $$ H4
  ihave Ho := (join_pts c outM (View.set_whole _) (result (Xof m) (Yof m) c) f4) $$ Ho
  icases Ho with ⟨%f, %hf, Ho⟩
  obtain rfl := eq_OUT (Xof m) (Yof m) c f hf
  isplitl [HO]; · iexact HO
  isplitl [HXY]; · iexact HXY
  isplitl [Hb]; · iexact Hb
  isplitl [HS HR]
  · isplitl [HR]; · iexact HR
    iexact HS
  isplitl [H0 H1 H2 H3 H4]
  · isplitl [H0]; · iexact H0
    isplitl [H1]; · iexact H1
    isplitl [H2]; · iexact H2
    isplitl [H3]; · iexact H3
    iexact H4
  iexact Ho

end Cert.KernelIdeal.Ring

end
-- ==== Proof.Oblig.lean ====
module

public import proofs.«01_k».proof.Proof.Region
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device owes at the two ends of the region -/

/-- The region is entered owing the barrier units and all the copies, -/
theorem owed_first (c : Dev nD) : (dat m c).owed t0_0.castSucc = O₀ c := by
  show (if (t0_0.castSucc : Fin (cfg0.N + 1)).val = 0 then O₀ c else 0) = O₀ c; exact if_pos rfl
/-- and left owing nothing. -/
theorem owed_last (c : Dev nD) : (dat m c).owed t0_0.succ = 0 := by
  show (if (t0_0.succ : Fin (cfg0.N + 1)).val = 0 then O₀ c else 0) = 0
  exact if_neg (Nat.succ_ne_zero _)

/-- What is owed at a point, as the body takes it, -/
theorem owes_in {cfg : Pipeline.Cfg sig Λ₀} {c : Dev nD} (d : Dat τ (Elt F) Unit ℕ UU ℕ cfg c) (t : Fin (cfg.N + 1))
    (O : CellTallies nD τ sig Unit) (ho : d.owed t = O) (hr : d.recorded t = Set.univ) :
    iprop(∃ W, owes (c : Thread nD τ) O W) ⊢ (d.owesAt () t : sProp 𝕄) := by
  unfold Dat.owesAt Pipeline.owesWithin Dat.bound
  rw [ho, hr]
  iintro ⟨%W, HO⟩
  iexists W
  isplitr
  · ipureintro; exact fun _ _ => Or.inl trivial
  iexact HO
/-- and as the body gives it back. -/
theorem owes_out {cfg : Pipeline.Cfg sig Λ₀} {c : Dev nD} (d : Dat τ (Elt F) Unit ℕ UU ℕ cfg c) (t : Fin (cfg.N + 1))
    (O : CellTallies nD τ sig Unit) (ho : d.owed t = O) :
    (d.owesAt () t : sProp 𝕄) ⊢ iprop(∃ W, owes (c : Thread nD τ) O W) := by
  unfold Dat.owesAt Pipeline.owesWithin
  rw [ho]
  iintro ⟨%W, -, HO⟩
  iexists W
  iexact HO

/-! ## The staged blocks -/

/-- Contents of a buffer that a fact pins are those contents. -/
theorem pinned {ℓ : Loc nD τ sig} (S : Finset ℓ.ty.shape.Idx) (X : Buf (Elt F) ℓ) :
    (iprop(∃ f : Buf (Elt F) ℓ, ⌜f = X⌝ ∗ (ℓ ↦[S]{fullShare} f)) : sProp 𝕄) = iprop(ℓ ↦[S]{fullShare} X) := by
  have h₁ : (iprop(∃ f : Buf (Elt F) ℓ, ⌜f = X⌝ ∗ (ℓ ↦[S]{fullShare} f)) : sProp 𝕄) ⊢ iprop(ℓ ↦[S]{fullShare} X) := by
    iintro ⟨%f, %hf, H⟩
    subst hf
    iexact H
  have h₂ : (iprop(ℓ ↦[S]{fullShare} X) : sProp 𝕄) ⊢ iprop(∃ f : Buf (Elt F) ℓ, ⌜f = X⌝ ∗ (ℓ ↦[S]{fullShare} f)) := by
    iintro H
    iexists X
    isplitr; · ipureintro; rfl
    iexact H
  exact BI.equiv_iff.mp ⟨h₁, h₂⟩
/-- The body holds the window of `O` whole, -/
theorem owns_o (c : Dev nD) (X : oM.view.ty.Contents (Elt F)) :
    (owns (c : Thread nD τ) oM fullShare X : sProp 𝕄) = iprop(oM.view.loc (c : Thread nD τ) ↦[oM.view.set]{fullShare} X) :=
  pinned (ℓ := oM.view.loc (c : Thread nD τ)) oM.view.set X
/-- the window of `Wo` whole, -/
theorem owns_w (c : Dev nD) (X : wM.view.ty.Contents (Elt F)) :
    (owns (c : Thread nD τ) wM fullShare X : sProp 𝕄) = iprop(wM.view.loc (c : Thread nD τ) ↦[wM.view.set]{fullShare} X) :=
  pinned (ℓ := wM.view.loc (c : Thread nD τ)) wM.view.set X
/-- and the window of the result whole. -/
theorem owns_out (c : Dev nD) (X : outM.view.ty.Contents (Elt F)) :
    (owns (c : Thread nD τ) outM fullShare X : sProp 𝕄) = iprop(outM.view.loc (c : Thread nD τ) ↦{fullShare} X) := by
  rw [show (owns (c : Thread nD τ) outM fullShare X : sProp 𝕄) = iprop(outM.view.loc (c : Thread nD τ) ↦[outM.view.set]{fullShare} X) from
    pinned (ℓ := outM.view.loc (c : Thread nD τ)) outM.view.set X,
    View.set_whole]

/-- Each scratch buffer has some contents; which ones is never looked at. -/
theorem scratch_some (c : Dev nD) : (scratch c : sProp 𝕄)
    ⊢ iprop(⌜Nonempty ((hb 0).view.ty.Contents (Elt F)) ∧ Nonempty (pM.view.ty.Contents (Elt F))⌝ ∗ scratch c) := by
  unfold scratch
  rw [scopedRest0_eq]
  iintro ⟨⟨%f, H0⟩, H1, H2, H3, ⟨%g, H4⟩⟩
  isplitr; · ipureintro; exact ⟨⟨f⟩, ⟨g⟩⟩
  isplitl [H0]; · iexists f; iexact H0
  isplitl [H1]; · iexact H1
  isplitl [H2]; · iexact H2
  isplitl [H3]; · iexact H3
  iexists g; iexact H4

/-- Reading which device this is, then running on. -/
theorem device_runs (c : Dev nD) (k : Dev nD → P F PUnit) (Q : PUnit → sProp 𝕄) :
    runs c (k c) Q ⊢ runs c (Prog.lift (TpuEff.deviceId) >>= k) Q := by
  unfold runs
  rw [Prog.lift, Prog.bind_op]
  simp only [Prog.bind_ret, wp_deviceId]
  exact Entails.refl _

/-- The kernel's body, from what a device enters the region with to what it leaves with. -/
theorem body_runs (c : Dev nD) :
    iprop(Xk m c ∗ scratch c ∗ (∃ W, owes (c : Thread nD τ) (O₀ c) W) ∗ (oPts (Xof m) c ∗ wPts (Yof m) c)
        ∗ (∃ f, outM.view.loc (c : Thread nD τ) ↦{fullShare} f))
      ⊢ runs c (bodyAt0 (F := F) t0_0) (fun _ => iprop((∃ W, owes (c : Thread nD τ) (0 : CellTallies nD τ sig Unit) W) ∗ (oPts (Xof m) c ∗ wPts (Yof m) c)
        ∗ Yk c ∗ Pipeline.ownSems0 osem c ∗ scratch c ∗ (outM.view.loc (c : Thread nD τ) ↦{fullShare} OUT (Xof m) (Yof m) c))) := by
  unfold Xk
  iintro ⟨⟨⟨%κ, #HR⟩, He⟩, Hs, HO, HXY, Ho⟩
  ihave Hs := (scratch_some c) $$ Hs
  icases Hs with ⟨%hne, Hs⟩
  obtain ⟨⟨f0⟩, ⟨f4⟩⟩ := hne
  ihave Hpre := (pre_intro m c) $$ [He HO Hs HXY Ho]
  · isplitl [He]; · iexact He
    isplitl [HO]; · iexact HO
    isplitl [Hs]; · iexact Hs
    isplitl [HXY]; · iexact HXY
    iexact Ho
  ihave H := (ring_runs (Xof m) (Yof m) κ c) $$ [Hpre]
  · isplitr; · iexact HR
    iexact Hpre
  have hb : runs c (ring oM wM outM (hb 0) (hb_whole 0) (hb 1) (hb_whole 1) (hb 2) (hb_whole 2) (hb 3) (hb_whole 3) pM cc0_scratch5 cc0_scratch6 c)
      (fun _ => ringPost (Xof m) (Yof m) c) ⊢ (runs c (bodyAt0 (F := F) t0_0) (fun _ => ringPost (Xof m) (Yof m) c) : sProp 𝕄) := by
    rw [show (bodyAt0 (F := F) t0_0) = (Prog.lift (TpuEff.deviceId) >>= fun c => ring oM wM outM (hb 0) (hb_whole 0) (hb 1) (hb_whole 1) (hb 2) (hb_whole 2) (hb 3) (hb_whole 3) pM cc0_scratch5 cc0_scratch6 c)
      from body_ring _ _ _ _ _ _ _ _ _ _ _ _ _ _ _ _ _ _]
    exact device_runs c _ _
  ihave H := hb $$ H
  unfold runs
  iapply (wp_wand frame (wpE (defs₀ (F := F)) 𝒱₀ c none) Set.univ (Q := fun _ => ringPost (Xof m) (Yof m) c)) $$ [H]
  · iexact H
  iintro %_ Hq
  iapply (post_elim m c f0 f4)
  iexact Hq

/-- The region's one step. -/
theorem body (c : Dev nD) : BodyObligation (dat (F := F) m c) defs₀ 𝒱₀ () Set.univ := fun t => by
  obtain rfl := fin_N0 t
  rw [bigSep_W0, bigSep_W0]
  rw [show (dat m c).Φ t0_0.castSucc = iprop(Xk m c ∗ scratch c ∗ ∃ r, prngReg c r) from rfl,
    show (dat m c).Φ t0_0.succ = iprop(Yk c ∗ Pipeline.ownSems0 osem c ∗ scratch c ∗ ∃ r, prngReg c r) from rfl]
  iintro ⟨⟨HX, Hs, Hr⟩, HO, ⟨%d0, H0⟩, ⟨%d1, H1⟩, ⟨%d2, H2⟩⟩
  have h0 : owns (c : Thread nD τ) (st0_0 t0_0) fullShare ((dat m c).before 0 t0_0 d0) ⊢ (oPts (Xof m) c : sProp 𝕄) := by
    rw [before0]; exact Entails.of_eq (owns_o c _)
  have h1 : owns (c : Thread nD τ) (st0_1 t0_0) fullShare ((dat m c).before 1 t0_0 d1) ⊢ (wPts (Yof m) c : sProp 𝕄) := by
    rw [before1]; exact Entails.of_eq (owns_w c _)
  have h2 : owns (c : Thread nD τ) (st0_2 t0_0) fullShare ((dat m c).before 2 t0_0 d2)
      ⊢ (iprop(∃ f, outM.view.loc (c : Thread nD τ) ↦{fullShare} f) : sProp 𝕄) := by
    refine Idealize.SL.BI.BIBase.Entails.trans (Entails.of_eq (owns_out c _)) ?_
    iintro H
    iexists _
    iexact H
  have h3 : (oPts (Xof m) c : sProp 𝕄) ⊢ owns (c : Thread nD τ) (st0_0 t0_0) fullShare ((dat m c).after 0 t0_0) := by
    rw [show (dat m c).after 0 t0_0 = Xof m c from iblk0 m c t0_0]; exact Entails.of_eq (owns_o c _).symm
  have h4 : (wPts (Yof m) c : sProp 𝕄) ⊢ owns (c : Thread nD τ) (st0_1 t0_0) fullShare ((dat m c).after 1 t0_0) := by
    rw [show (dat m c).after 1 t0_0 = Yof m c from iblk1 m c t0_0]; exact Entails.of_eq (owns_w c _).symm
  have h5 : (iprop(outM.view.loc (c : Thread nD τ) ↦{fullShare} OUT (Xof m) (Yof m) c) : sProp 𝕄)
      ⊢ owns (c : Thread nD τ) (st0_2 t0_0) fullShare ((dat m c).after 2 t0_0) := Entails.of_eq (owns_out c _).symm
  ihave H0 := h0 $$ H0
  ihave H1 := h1 $$ H1
  ihave H2 := h2 $$ H2
  ihave HO := (owes_out (dat m c) _ (O₀ c) (owed_first m c)) $$ HO
  ihave H := (body_runs m c) $$ [HX Hs HO H0 H1 H2]
  · isplitl [HX]; · iexact HX
    isplitl [Hs]; · iexact Hs
    isplitl [HO]; · iexact HO
    isplitl [H0 H1]; · isplitl [H0] <;> iassumption
    iexact H2
  unfold runs
  iapply (wp_wand frame (wpE (defs₀ (F := F)) 𝒱₀ c none) Set.univ (p := bodyAt0 (F := F) t0_0) (Q := fun _ => iprop((∃ W, owes (c : Thread nD τ) (0 : CellTallies nD τ sig Unit) W) ∗ (oPts (Xof m) c ∗ wPts (Yof m) c)
        ∗ Yk c ∗ Pipeline.ownSems0 osem c ∗ scratch c ∗ (outM.view.loc (c : Thread nD τ) ↦{fullShare} OUT (Xof m) (Yof m) c)))) $$ [H]
  · iexact H
  iintro %_ ⟨HO, ⟨H0, H1⟩, Hb, Hos, Hs, H2⟩
  ihave HO := (owes_in (dat m c) t0_0.succ 0 (owed_last m c) rfl) $$ HO
  ihave H0 := h3 $$ H0
  ihave H1 := h4 $$ H1
  ihave H2 := h5 $$ H2
  isplitl [Hb Hos Hs Hr]
  · isplitl [Hb]; · iexact Hb
    isplitl [Hos]; · iexact Hos
    isplitl [Hs]; · iexact Hs
    iexact Hr
  isplitl [HO]; · iexact HO
  isplitl [H0]; · iexact H0
  isplitl [H1]; · iexact H1
  iexact H2

end Cert.KernelIdeal.Ring

end
-- ==== Proof.Deal.lean ====
module

public import proofs.«01_k».proof.Proof.Oblig
public import Idealize.ShloMosaic.Lib.Pipeline.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens of the launch -/

/-- A semaphore of the ring knows its site back. -/
def siteRole : Site → Role
  | none => .bar
  | some (false, h, s) => .send h s
  | some (true, h, s) => .recv h s

/-- The semaphore at a place plays that place's role. -/
theorem role_site : ∀ k, role (siteSem k) = siteRole k
  | none => role_bar
  | some (false, h, s) => role_send h s
  | some (true, h, s) => role_recv h s

/-- Different places have different roles, -/
theorem siteRole_inj : Function.Injective siteRole := by
  rintro (_ | ⟨_ | _, h, s⟩) (_ | ⟨_ | _, h', s'⟩) e <;> simp_all [siteRole]

/-- so different semaphores, -/
theorem siteSem_inj : Function.Injective siteSem := fun a b h =>
  siteRole_inj (by rw [← role_site, ← role_site, h])

/-- and a cell is at one place of one device only. -/
theorem site_eq {d c : Dev nD} {k k' : Site} (h : siteCell (d, k) = siteCell (c, k')) : d = c ∧ k = k' :=
  ⟨congrArg (fun g : GSem nD τ sig => g.1.1) h, siteSem_inj (congrArg Prod.snd h)⟩

def barEmb : Dev nD ↪ GSem nD τ sig := ⟨fun c => barCell c, fun _ _ h => congrArg (fun g : GSem nD τ sig => g.1.1) h⟩
def ownEmb : Dev nD × Own ↪ GSem nD τ sig :=
  ⟨fun p => siteCell (p.1, some p.2), fun _ _ h => Prod.ext (site_eq h).1 (Option.some.inj (site_eq h).2)⟩

/-- The barriers, funded at launch from their counters; the send and receive cells, opened by the kernel. -/
abbrev barCells : Finset (GSem nD τ sig) := Finset.univ.map barEmb
abbrev ownCells : Finset (GSem nD τ sig) := Finset.univ.map ownEmb

/-- The barrier cells are none of the copies' cells. -/
theorem cells_disjoint : Disjoint barCells ownCells := by
  rw [Finset.disjoint_left]
  rintro g h₁ h₂
  obtain ⟨c, -, rfl⟩ := Finset.mem_map.mp h₁
  obtain ⟨p, -, h⟩ := Finset.mem_map.mp h₂
  have e := (site_eq (c := c) (k' := none) h).2
  cases e

/-- Each place's cell is among the cells dealt. -/
theorem site_mem : ∀ p : Dev nD × Site, siteCell p ∈ barCells ∪ ownCells
  | (c, none) => Finset.mem_union_left _ (Finset.mem_map_of_mem barEmb (Finset.mem_univ c))
  | (c, some k) => Finset.mem_union_right _ (Finset.mem_map_of_mem ownEmb (Finset.mem_univ (c, k)))

/-- Each cell's duties in round 0: two on a barrier, one on any other. -/
def dutyOf : Dev nD × (Bool ⊕ Own) → GSem nD τ sig × ℕ × Bool
  | (c, .inl b) => (barCell c, 0, b)
  | (c, .inr k) => (siteCell (c, some k), 0, false)

/-- Different duties have different tokens. -/
theorem dutyOf_inj : Function.Injective dutyOf := by
  rintro ⟨c, b | k⟩ ⟨c', b' | k'⟩ h
  · have e := site_eq (k := none) (k' := none) (congrArg Prod.fst h)
    have e' : b = b' := congrArg (fun t : GSem nD τ sig × ℕ × Bool => t.2.2) h
    rw [e.1, e']
  · have e := (site_eq (k := none) (k' := some k') (congrArg Prod.fst h)).2
    cases e
  · have e := (site_eq (k := some k) (k' := none) (congrArg Prod.fst h)).2
    cases e
  · have e := site_eq (k := some k) (k' := some k') (congrArg Prod.fst h)
    rw [e.1, Option.some.inj e.2]

def ringToks : Finset (GSem nD τ sig × ℕ × Bool) := Finset.univ.map ⟨dutyOf, dutyOf_inj⟩

/-- The tokens of a device's send cells, and of its receive cells. -/
def sendToks (c : Dev nD) : sProp 𝕄 := bigSepL hops (fun h => bigSepL subs (fun s => dutyTok ER (sendCell c h s) 0 false))
def recvToks (c : Dev nD) : sProp 𝕄 := bigSepL hops (fun h => bigSepL subs (fun s => dutyTok ER (recvCell c h s) 0 false))

/-- All the tokens of the ring, device by device, are the tokens that the launch makes. -/
theorem toks_eq : (bigSep ringToks (fun x => dutyTok ER x.1 x.2.1 x.2.2) : sProp 𝕄)
    = bigSep Finset.univ fun c : Dev nD => iprop((dutyTok ER (barCell c) 0 true ∗ dutyTok ER (barCell c) 0 false) ∗ recvToks c ∗ sendToks c) := by
  unfold ringToks
  rw [bigSep_map, bigSep_univ_prod]
  refine bigSep_congr fun c _ => ?_
  rw [bigSep_univ_sum, bigSep_univ_eq_bigSepL [true, false] (by decide) (by decide), bigSep_own]
  rfl

/-- Every token handed to the device that pays the duty: a barrier's two to the neighbours, a receive cell's to the left
    neighbour, a send cell's to the device itself. -/
theorem toks_deal : (bigSep Finset.univ fun c : Dev nD => (iprop((dutyTok ER (barCell c) 0 true ∗ dutyTok ER (barCell c) 0 false) ∗ recvToks c ∗ sendToks c) : sProp 𝕄))
    = bigSep Finset.univ fun c : Dev nD => iprop((dutyTok ER (barCell (left c)) 0 true ∗ dutyTok ER (barCell (right c)) 0 false)
        ∗ recvToks (right c) ∗ sendToks c) := by
  rw [bigSep_sep', bigSep_sep', bigSep_sep', bigSep_sep', bigSep_sep', bigSep_sep',
    bigSep_univ_equiv ringE.symm (fun c : Dev nD => (dutyTok ER (barCell c) 0 true : sProp 𝕄)),
    bigSep_univ_equiv ringE (fun c : Dev nD => (dutyTok ER (barCell c) 0 false : sProp 𝕄)),
    bigSep_univ_equiv ringE (fun c : Dev nD => (recvToks c : sProp 𝕄))]
  rfl

/-! ## The launch credit -/

/-- What device `d` owes a cell for its copies: one copy's units, if the cell is a receive cell of its right neighbour. -/
theorem owed_at (d c : Dev nD) (k : Site) : owed d 0 (siteCell (c, k)) () = if ∃ h s, k = some (true, h, s) ∧ d = left c then N else 0 := by
  unfold owed
  rw [Finset.sum_apply, Finsupp.finsetSum_apply]
  split
  · next hk =>
    obtain ⟨h, s, rfl, rfl⟩ := hk
    rw [Finset.sum_eq_single (h, s)]
    · rw [tallyAt_apply, right_left, if_pos ⟨rfl, rfl⟩]
    · intro p _ hp
      rw [tallyAt_apply]
      refine if_neg fun e => hp ?_
      have e' := (site_eq (d := c) (c := right (left c)) (k := some (true, h, s)) (k' := some (true, p.1, p.2)) e.1).2
      simp only [Option.some.injEq, Prod.mk.injEq, true_and] at e'
      exact Prod.ext e'.1.symm e'.2.symm
    · intro hn
      exact absurd (Finset.mem_filter.mpr ⟨Finset.mem_univ (h, s), Nat.zero_le _⟩) hn
  · next hk =>
    refine Finset.sum_eq_zero fun p _ => ?_
    rw [tallyAt_apply]
    refine if_neg fun e => hk ⟨p.1, p.2, ?_⟩
    have e' := site_eq (d := c) (c := right d) (k := k) (k' := some (true, p.1, p.2)) e.1
    exact ⟨e'.2, by rw [e'.1, left_right]⟩

/-- A barrier unit for `d` counts at `d`'s barrier cell only. -/
theorem bar_at (d c : Dev nD) (k : Site) : (tallyAt (barCell d) () 1 : CellTallies nD τ sig Unit) (siteCell (c, k)) () = if k = none ∧ c = d then 1 else 0 := by
  rw [tallyAt_apply]
  refine if_congr ⟨fun h => ?_, fun h => ?_⟩ rfl rfl
  · have e := site_eq (d := c) (c := d) (k := k) (k' := none) h.1
    exact ⟨e.2, e.1⟩
  · rw [h.1, h.2]; exact ⟨rfl, rfl⟩

/-- At launch a device owes one unit to each neighbour's barrier cell, -/
theorem O₀_bar (d c : Dev nD) : O₀ d (barCell c) () = (if d = left c then 1 else 0) + if d = right c then 1 else 0 := by
  unfold O₀
  rw [Pi.add_apply, Pi.add_apply, Finsupp.add_apply, Finsupp.add_apply]
  have h₁ : owed d 0 (barCell c) () = 0 := (owed_at d c none).trans (if_neg (by rintro ⟨h, s, e, _⟩; cases e))
  have h₂ : (tallyAt (barCell (right d)) () 1 : CellTallies nD τ sig Unit) (barCell c) () = if d = left c then 1 else 0 :=
    (bar_at (right d) c none).trans (if_congr ⟨fun h => by rw [h.2, left_right], fun h => ⟨rfl, by rw [h, right_left]⟩⟩ rfl rfl)
  have h₃ : (tallyAt (barCell (left d)) () 1 : CellTallies nD τ sig Unit) (barCell c) () = if d = right c then 1 else 0 :=
    (bar_at (left d) c none).trans (if_congr ⟨fun h => by rw [h.2, right_left], fun h => ⟨rfl, by rw [h, left_right]⟩⟩ rfl rfl)
  rw [h₁, h₂, h₃, Nat.zero_add]

/-- and one copy's units to each receive cell of its right neighbour. -/
theorem O₀_recv (d c : Dev nD) (h : Fin 3) (s : Fin 8) : O₀ d (recvCell c h s) () = if d = left c then N else 0 := by
  unfold O₀
  rw [Pi.add_apply, Pi.add_apply, Finsupp.add_apply, Finsupp.add_apply]
  have h₁ : owed d 0 (recvCell c h s) () = if d = left c then N else 0 :=
    (owed_at d c (some (true, h, s))).trans (if_congr ⟨fun ⟨_, _, _, e⟩ => e, fun e => ⟨h, s, rfl, e⟩⟩ rfl rfl)
  have h₂ : ∀ d', (tallyAt (barCell d') () 1 : CellTallies nD τ sig Unit) (recvCell c h s) () = 0 := fun d' =>
    (bar_at d' c (some (true, h, s))).trans (if_neg (by rintro ⟨e, _⟩; cases e))
  rw [h₁, h₂, h₂]; rfl

/-- Summed over the devices, a barrier cell is owed two units, -/
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (left c) fun _ => 1, Finset.sum_ite_eq' Finset.univ (right c) fun _ => 1, if_pos (Finset.mem_univ _), if_pos (Finset.mem_univ _)]

/-- and a receive cell one copy's units. -/
theorem credit_recv (c : Dev nD) (h : Fin 3) (s : Fin 8) :
    tallyOn (recvCell c h s) (launchCredit (Pipeline.owing O₀) 0 (recvCell c h s)) = (tallyAt (recvCell c h s) () N : CellTallies nD τ sig Unit) := by
  unfold tallyAt; refine congrArg _ (Finsupp.ext fun u => ?_); cases u
  rw [Pipeline.launchCredit_owing, Finsupp.single_eq_same, Finset.sum_congr rfl fun d _ => O₀_recv d c h s,
    Finset.sum_ite_eq' Finset.univ (left c) fun _ => N, if_pos (Finset.mem_univ _)]

def recvEmb : Fin 3 × Fin 8 ↪ SemLoc sig :=
  ⟨fun p => siteSem (some (true, p.1, p.2)), fun _ _ h => by
    have e := siteSem_inj h
    simp only [Option.some.injEq, Prod.mk.injEq, true_and] at e
    exact Prod.ext e.1 e.2⟩

/-- What the launch credits a device with: its barrier's two units, and each receive cell's block. -/
theorem creds (c : Dev nD) : (Pipeline.launchCred O₀ c : sProp 𝕄)
    ⊢ iprop(cred (tallyAt (barCell c) () 2) ∗ bigSepL hops (fun h => bigSepL subs (fun s => cred (tallyAt (recvCell c h s) () N)))) := by
  unfold Pipeline.launchCred
  rw [bigSep_univ_at _ (SemLoc.reg barS), credit_bar]
  refine sep_mono_right ?_
  have hsub : Finset.univ.map recvEmb ⊆ (Finset.univ : Finset (SemLoc sig)).erase (SemLoc.reg barS) := fun k hk => by
    obtain ⟨p, -, rfl⟩ := Finset.mem_map.mp hk
    refine Finset.mem_erase.mpr ⟨fun e => ?_, Finset.mem_univ _⟩
    have e' := siteSem_inj (a₁ := some (true, p.1, p.2)) (a₂ := none) e
    cases e'
  have h₁ := bigSep_subset hsub (Φ := fun sm : SemLoc sig =>
    (cred (tallyOn ((c : Thread nD τ), sm) (launchCredit (Pipeline.owing O₀) 0 ((c : Thread nD τ), sm))) : sProp 𝕄))
  rw [bigSep_map, bigSep_sites] at h₁
  refine Idealize.SL.BI.BIBase.Entails.trans h₁ (Entails.of_eq ?_)
  refine congrArg (bigSepL hops) (funext fun h => congrArg (bigSepL subs) (funext fun s => ?_))
  exact congrArg cred (credit_recv c h s)

end Cert.KernelIdeal.Ring

end
-- ==== Proof.Launch.lean ====
module

public import proofs.«01_k».proof.Proof.Deal
public import proofs.«01_k».proof.Proof.Gen.KernelIdeal.Launch
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds between launch and kernel -/

/-- Every cell's invariant. -/
def invs (κ : GSem nD τ sig → ℕ) : sProp 𝕄 :=
  bigSep (Finset.univ : Finset (Dev nD × Site)) (fun p => cellInv ER (Rd (Xof m) (Yof m)) (κ (siteCell p)) (siteCell p))
instance invs_persistent (κ : GSem nD τ sig → ℕ) : BI.Persistent (invs m κ) := by unfold invs; infer_instance

/-- The dealt invariants hold each cell's. -/
theorem invs_cell (κ : GSem nD τ sig → ℕ) (p : Dev nD × Site) : invs m κ ⊢ cellInv ER (Rd (Xof m) (Yof m)) (κ (siteCell p)) (siteCell p) :=
  bigSep_elim (Finset.mem_univ p)

/-- Each barrier's round 0 is reached. -/
def bars : sProp 𝕄 := bigSep (Finset.univ : Finset (Dev nD)) (fun c => reached ER (barCell c) 0)
instance bars_persistent : BI.Persistent (bars (F := F)) := by unfold bars; infer_instance
/-- Every device's barrier cell is in its first round. -/
theorem bars_at (c : Dev nD) : bars (F := F) ⊢ reached ER (barCell c) 0 := bigSep_elim (Finset.mem_univ c)

/-- The rest of what the launch deals a device: where it stands on its barrier, the rights to open its cells, the tokens of
    the duties it pays. -/
def dealt (c : Dev nD) : sProp 𝕄 :=
  iprop(atPos ER (barCell c) 0 ∅ 0 ∗ bigSep (Finset.univ : Finset Own) (fun k => openTok ER (siteCell (c, some k)))
    ∗ (dutyTok ER (barCell (left c)) 0 true ∗ dutyTok ER (barCell (right c)) 0 false) ∗ recvToks (right c) ∗ sendToks c)

/-- The credit the launch gives it. -/
def credit (c : Dev nD) : sProp 𝕄 :=
  iprop(cred (tallyAt (barCell c) () 2) ∗ bigSepL hops (fun h => bigSepL subs (fun s => cred (tallyAt (recvCell c h s) () N))))

def Tk (c : Dev nD) : sProp 𝕄 := iprop((∃ κ, invs m κ) ∗ bars ∗ dealt c ∗ credit c)

/-- Opening one cell of a device. -/
theorem open_one (κ : GSem nD τ sig → ℕ) (c : Dev nD) (k : Own) :
    iprop(invs m κ ∗ (openTok ER (siteCell (c, some k)) ∗ semVal (siteCell (c, some k)) 0))
      ⊢ (|={Set.univ}=> iprop(atPos ER (siteCell (c, some k)) 0 ∅ 0 ∗ reached ER (siteCell (c, some k)) 0) : sProp 𝕄) := by
  iintro ⟨HI, Ho, Hs⟩
  ihave HI := (invs_cell m κ (c, some k)) $$ HI
  iapply (Rounds.cell_open ER (Rd (Xof m) (Yof m)) (g := siteCell (c, some k)) (Set.mem_univ (κ (siteCell (c, some k)))))
  isplitl [HI]; · iexact HI
  isplitl [Ho] <;> iassumption

/-- Opening all of them. -/
theorem open_all (κ : GSem nD τ sig → ℕ) (c : Dev nD) :
    iprop(invs m κ ∗ (bigSep (Finset.univ : Finset Own) (fun k => openTok ER (siteCell (c, some k))) ∗ Pipeline.ownSems0 osem c))
      ⊢ (|={Set.univ}=> iprop((bigSepL hops (fun h => bigSepL subs (fun s => atPos ER (recvCell c h s) 0 ∅ 0))
            ∗ bigSepL hops (fun h => bigSepL subs (fun s => reached ER (recvCell c h s) 0)))
          ∗ bigSepL hops (fun h => bigSepL subs (fun s => atPos ER (sendCell c h s) 0 ∅ 0))
            ∗ bigSepL hops (fun h => bigSepL subs (fun s => reached ER (sendCell c h s) 0))) : sProp 𝕄) := by
  have h₁ : iprop(invs m κ ∗ bigSep (Finset.univ : Finset Own) (fun k => iprop(openTok ER (siteCell (c, some k)) ∗ semVal (siteCell (c, some k)) 0)))
      ⊢ bigSep (Finset.univ : Finset Own) (fun k => iprop(|={Set.univ}=> (atPos ER (siteCell (c, some k)) 0 ∅ 0 ∗ reached ER (siteCell (c, some k)) 0))) :=
    bigSep_with_persistent (R := invs m κ) fun k _ => open_one m κ c k
  have h₂ : bigSep (Finset.univ : Finset Own) (fun k => iprop(|={Set.univ}=> (atPos ER (siteCell (c, some k)) 0 ∅ 0 ∗ reached ER (siteCell (c, some k)) 0)))
      ⊢ (|={Set.univ}=> bigSep (Finset.univ : Finset Own) (fun k => iprop(atPos ER (siteCell (c, some k)) 0 ∅ 0 ∗ reached ER (siteCell (c, some k)) 0)) : sProp 𝕄) :=
    bigSep_fupd _ _
  rw [bigSep_sep'] at h₁
  rw [bigSep_own (fun k => iprop(atPos ER (siteCell (c, some k)) 0 ∅ 0 ∗ reached ER (siteCell (c, some k)) 0))] at h₂
  have h₃ := pairs_over (F := F) (fun h s => atPos ER (recvCell c h s) 0 ∅ 0) (fun h s => reached ER (recvCell c h s) 0)
  have h₄ := pairs_over (F := F) (fun h s => atPos ER (sendCell c h s) 0 ∅ 0) (fun h s => reached ER (sendCell c h s) 0)
  rw [← h₃, ← h₄]
  exact Idealize.SL.BI.BIBase.Entails.trans h₁ h₂

/-- At the launch the device's semaphores become cells of the protocol, and its tokens are what the body starts from. -/
theorem hopen (c : Dev nD) : iprop(Tk m c ∗ Pipeline.ownSems0 osem c ∗ levAts L lv) ⊢ (|={Set.univ}=> Xk m c : sProp 𝕄) := by
  have hl : (levAts L lv : sProp 𝕄) = lvs := by unfold lvs; rfl
  rw [hl]
  unfold Tk dealt credit
  iintro ⟨⟨⟨%κ, #HI⟩, #Hb, ⟨HaB, Ho, ⟨HtL, HtR⟩, Htr, Hts⟩, HcB, Hcr⟩, Hs, #Hl⟩
  imod (open_all m κ c) $$ [Ho Hs] with ⟨⟨Har, Hrr⟩, Has, Hrs⟩
  · isplitr; · iexact HI
    isplitl [Ho] <;> iassumption
  imodintro
  unfold Xk
  isplitr
  · iexists κ
    rw [show records (Xof m) (Yof m) κ = iprop(invs m κ ∗ lvs) from rfl]
    isplitr; · iexact HI
    iexact Hl
  unfold entry
  isplitl [HtL HtR]
  · isplitl [HtL]; · iexact HtL
    isplitr; · iapply (bars_at (F := F) (left c)); iexact Hb
    isplitl [HtR]; · iexact HtR
    iapply (bars_at (F := F) (right c)); iexact Hb
  isplitl [HcB HaB]
  · isplitl [HcB] <;> iassumption
  isplitl [Hrr]; · iexact Hrr
  isplitl [Hts Hrs Htr]
  · rw [show bigSepL hops (fun h => bigSepL subs (SG (F := F) c h))
        = iprop(sendToks c ∗ bigSepL hops (fun h => bigSepL subs (fun s => reached ER (sendCell c h s) 0)) ∗ recvToks (right c)) from by
      unfold sendToks recvToks
      rw [← pairs_over, ← pairs_over]
      rfl]
    isplitl [Hts]; · iexact Hts
    isplitl [Hrs] <;> iassumption
  isplitl [Hcr Har]
  · rw [show bigSepL hops (fun h => bigSepL subs (RG (F := F) c h))
        = iprop(bigSepL hops (fun h => bigSepL subs (fun s => cred (tallyAt (recvCell c h s) () N)))
          ∗ bigSepL hops (fun h => bigSepL subs (fun s => atPos ER (recvCell c h s) 0 ∅ 0))) from by
      rw [← pairs_over]
      rfl]
    isplitl [Hcr] <;> iassumption
  iexact Has

end Cert.KernelIdeal.Ring

end
-- ==== Proof.Run.lean ====
module

public import proofs.«01_k».proof.Proof.Launch
public import proofs.«01_k».proof.Proof.Gen.KernelIdeal.Frame

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers of @main -/

abbrev ref (b : Ref sig .tc) : DevRef τ sig := Proc.devRef .tc b

def bufs : Finset (DevRef τ sig) := (StableHlo.tcRefs τ sig).filter fun b => ¬ b.isScoped

/-- The unscoped buffers held one by one are the set `bufs` held. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- They are the two arguments, the reshaped operand and the result. -/
theorem bufs_eq (c : Dev nD) (W : Valuation τ sig (Elt F)) : (StableHlo.held (c : Thread nD τ) bufs W : sProp 𝕄)
    = iprop(((c : Thread nD τ).loc main_arg0 ↦{fullShare} W (ref main_arg0)) ∗ ((c : Thread nD τ).loc main_arg1 ↦{fullShare} W (ref main_arg1))
      ∗ ((c : Thread nD τ).loc main_v1 ↦{fullShare} W (ref main_v1)) ∗ ((c : Thread nD τ).loc main_v2 ↦{fullShare} W (ref main_v2))) := by
  unfold StableHlo.held
  rw [bigSep_eq_bigSepL_of_eq [ref main_arg0, ref main_arg1, ref main_v1, ref main_v2] (by decide) (by decide)]
  rfl

/-- The one unscoped semaphore is the barrier's, -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- and there is no other. -/
theorem unscoped_only : ∀ sm : SemLoc sig, sm.isScoped .tc = false → sm = .reg barS := by decide +kernel

/-- As launched; with the reshaped operand; with the result. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (ref main_v2) (OUT (Xof m) (Yof m) c)

/-- At the end the result buffer holds `OUT`, -/
theorem V₂_out (c : Dev nD) : V₂ m c (ref main_v2) = OUT (Xof m) (Yof m) c := Function.update_self ..
/-- and the other buffers what they held before the call. -/
theorem V₂_of_ne (c : Dev nD) {b : DevRef τ sig} (h : b ≠ ref main_v2) : V₂ m c b = V₁ m c b := Function.update_of_ne h _ _

/-! ## The kernel's region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The facts of the call that the launch wants, by computation. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The semaphores of the copies are scoped ones, apart from the windows'. -/
theorem own_facts : Pipeline.OwnSemFacts spec0 osem := by decide +kernel

/-- On entering the region a device owes what it owed at launch, -/
theorem owed_zero (c : Dev nD) : (pdats m 0 c).owed 0 = 0 + O₀ c := by
  rw [zero_add]
  show (if ((0 : Fin (cfg0.N + 1)).val = 0) then O₀ c else 0) = O₀ c; exact if_pos rfl
/-- and on leaving it nothing. -/
theorem owed_fin (c : Dev nD) : (pdats m 0 c).owed (Fin.last _) = 0 := by
  show (if (Fin.last cfg0.N).val = 0 then O₀ c else 0) = 0
  rw [Fin.val_last, if_neg (by rw [show cfg0.N = 1 from N_0]; decide)]

/-- A barrier unit is owed at that barrier cell only. -/
theorem bar_pos {d : Dev nD} {g : GSem nD τ sig} {u : Unit} (h : 0 < (tallyAt (barCell d) () 1 : CellTallies nD τ sig Unit) g u) : g = barCell d := by
  rw [tallyAt_apply] at h
  split at h
  · next hg => exact hg.1
  · exact absurd h (Nat.lt_irrefl 0)

/-- Whatever a device owes sits at level 1 or above. -/
theorem O₀_level (c : Dev nD) (g : GSem nD τ sig) (u : Unit) (h : 0 < O₀ c g u) : u ∈ L g ∧ 0 < lv g u := by
  have hbar : ∀ d, () ∈ L (barCell d) ∧ 0 < lv (barCell d) () := fun d =>
    ⟨by rw [L_tc]; exact Finset.mem_singleton_self _, by unfold lv; rw [role_bar]; decide⟩
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · obtain ⟨hh, s, -, rfl⟩ := owed_pos h
      refine ⟨by rw [L_tc]; exact Finset.mem_singleton_self _, ?_⟩
      unfold lv
      rw [role_recv]
      exact Nat.lt_of_lt_of_le Nat.two_pos (Nat.le_add_right _ _)
    · obtain rfl := bar_pos h
      exact hbar _
  · obtain rfl := bar_pos h
    exact hbar _

/-- What is owed at any point is owed to a cell with a level above the windows'. -/
theorem cut (c : Dev nD) (t : Fin ((Pipeline.pin (pcfgs (F := F)) adm 0).N + 1)) (g : GSem nD τ sig) (u : Unit) (h : 0 < (pdats m 0 c).owed t g u) :
    u ∈ L g ∧ 0 < lv g u := by
  have e : (pdats m 0 c).owed t = if t.val = 0 then O₀ c else 0 := rfl
  rw [e] at h
  split at h
  · exact O₀_level c g u h
  · exact absurd h (Nat.lt_irrefl 0)

/-- The windows' semaphores have no role in the protocol. -/
theorem stage_level : ∀ (w : Fin 3) (s : Fin ((cfg0.win w).nbuf)), role (.dma ((cfg0.win w).sem s)) = Role.none := by decide +kernel

/-- What the launch gives is what the region starts from, -/
theorem hin (c : Dev nD) : iprop(Pipeline.scopedRest (Pipeline.pin (pcfgs (F := F)) adm 0).spec c ∗ (∃ r, prngReg c r)
      ∗ StableHlo.held (c.tc : Thread nD τ) ∅ (V₁ m c) ∗ Xk m c)
    ⊢ (pdats m 0 c).Φ 0 := by
  rw [show (pdats m 0 c).Φ 0 = iprop(Xk m c ∗ scratch c ∗ ∃ r, prngReg c r) from rfl]
  iintro ⟨Hs, Hp, -, HX⟩
  isplitl [HX]; · iexact HX
  isplitl [Hs]; · iexact Hs
  iexact Hp

/-- and what the region ends with is what the launch takes back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk c) := by
  rw [show (pdats m 0 c).Φ (Fin.last _) = iprop(Yk c ∗ Pipeline.ownSems0 osem c ∗ scratch c ∗ ∃ r, prngReg c r) from rfl]
  unfold StableHlo.held
  rw [BI.bigSep_empty]
  iintro ⟨Hb, Ho, Hs, Hp⟩
  isplitl [Hs]; · iexact Hs
  isplitl [Hp]; · iexact Hp
  isplitr; · iempintro
  isplitl [Ho] <;> iassumption

/-- The result's array once its one block is written back. -/
theorem arr_out (c : Dev nD) : (dat m c).arrAt 2 cfg0.N = OUT (Xof m) (Yof m) c := by
  refine Dat.arrAt_eq_of_after_last (dat m c) 2 t0_0 (by decide +kernel) (OUT (Xof m) (Yof m) c) fun j => ?_
  rfl

abbrev arrs : Finset (DevRef τ sig) := Pipeline.arrRefs (τ := τ) spec0
/-- The call's arrays are among the buffers of @main, -/
theorem arrs_sub : arrs ⊆ bufs := by decide
/-- the result among them. -/
theorem out_mem : ref main_v2 ∈ arrs := by decide

/-- The windows' arrays are found as the reshape leaves them, -/
theorem hW (c : Dev nD) (w : Fin 3) : (dat m c).arrAt w 0 = V₁ m c (ref (Pipeline.arrRef spec0 w)) := rfl
/-- and left with the result written. -/
theorem hW' (c : Dev nD) : ∀ w : Fin 3, (dat m c).arrAt w cfg0.N = V₂ m c (ref (Pipeline.arrRef spec0 w))
  | 0 => ((dat m c).arrAt_in 0 rfl _).trans (V₂_of_ne m c (b := ref main_v1) (by decide)).symm
  | 1 => ((dat m c).arrAt_in 1 rfl _).trans (V₂_of_ne m c (b := ref main_arg1) (by decide)).symm
  | 2 => (arr_out m c).trans (V₂_out m c).symm

/-- The buffers that are not the call's stay as they were. -/
theorem rest_kept (c : Dev nD) (b : DevRef τ sig) (hb : b ∈ (bufs \ arrs) \ ∅) : V₂ m c b = V₁ m c b := by
  rw [Finset.sdiff_empty] at hb
  exact V₂_of_ne m c fun e => (Finset.mem_sdiff.mp hb).2 (e ▸ out_mem)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the region. -/
def R (c : Dev nD) : sProp 𝕄 := iprop(Tk m c ∗ (∃ r, prngReg c r) ∗ ∃ W, owes (c : Thread nD τ) (O₀ c) W)

/-- The reshape touches buffers of @main only, -/
theorem ops_sub : ∀ op ∈ (hostOps0 : List (HloOp τ sig (Elt F))), op.bufs ⊆ bufs := fun op h => by
  obtain rfl := List.mem_singleton.mp h
  show ({ref main_arg0, ref main_v1} : Finset (DevRef τ sig)) ⊆ bufs
  decide
/-- and allocates none. -/
theorem ops_fresh : ∀ op ∈ (hostOps0 : List (HloOp τ sig (Elt F))), op.fresh = ∅ := List.forall_iff_forall_mem.mp hostOps0_fresh

def seg0 : ℍ := Pipeline.HostSeg.ofOps _ _ _ _ _ bufs hostOps0 ops_sub ops_fresh (V₀ m) (R m)

set_option backward.isDefEq.respectTransparency.types false in
def reg0 : ℝ𝕊 0 :=
  Pipeline.RegionSeg.ofTalk (pcfgs (F := F)) adm (pdats m) () defs₀ 𝒱₀ L lv 0 osem own_facts
    ∅ (bufs \ arrs) (Finset.empty_subset _) kit rfl (fun c => (body m c).loose)
    (fun _ => 0) O₀ (owed_zero m) (owed_fin m) (fun _ => rfl) (fun c w => ite_self _)
    (V₁ m) (V₂ m) (rest_kept m)
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (congrArg lvOf (stage_level w s)), fun c t g i h => cut m c t g i h⟩
    (fun _ => iprop(emp))
    (hW m) (hW' m)

/-- The buffers and the dealt tokens are the region's start, -/
theorem reg0_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk m c ∗ ∃ Wd, owes (c : Thread nD τ) (0 + O₀ c) Wd)
  rw [StableHlo.held_sub_split _ arrs_sub, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- and its end gives the buffers back with the result written and the counters at zero. -/
theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [StableHlo.held_sub_split _ arrs_sub (V₂ m c)]
  iintro ⟨Ha, -, ⟨Hr, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (seg0 m), .region (reg0 m)]

/-! ## The launch -/

/-- The launch's resources: the staging cells' and the ring's. -/
def u₀ : UU :=
  (initOf (Pipeline.cells (Pipeline.pin (pcfgs (F := F)) adm) cellOf_inj) (Pipeline.launchToks (Pipeline.pin (pcfgs (F := F)) adm) cellOf_inj),
    launchOf barCells ownCells ringToks)

/-- The ring's, all on device 0 until they are dealt. -/
def G (c : Dev nD) : sProp 𝕄 := if c = 0 then BI.own (ER (launchOf barCells ownCells ringToks)) else iprop(emp)
/-- The devices' shares of the protocol's tokens are the whole that the launch makes. -/
theorem G_all : bigSep Finset.univ (G (F := F)) = BI.own (ER (launchOf barCells ownCells ringToks)) := by
  rw [bigSep_univ_at _ (0 : Dev nD), bigSep_congr (s := Finset.univ.erase (0 : Dev nD)) (Ψ := fun _ => (BI.emp : sProp 𝕄))
    (fun c hc => by unfold G; rw [if_neg (Finset.ne_of_mem_erase hc)]; rfl), BI.bigSep_emp_const]
  unfold G
  rw [if_pos rfl]
  exact BI.equiv_iff.mp sep_emp

/-- A device's own part of the start beside what is dealt: its buffers, its credit, its debt, its register. -/
def own₀ (c : Dev nD) : sProp 𝕄 :=
  iprop(StableHlo.held (c : Thread nD τ) bufs (V₀ m c) ∗ credit c ∗ owes (c : Thread nD τ) (O₀ c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- A device's start is what it was launched with, what it is dealt, and the cells' invariants. -/
theorem T₀_intro (κ : GSem nD τ sig → ℕ) (c : Dev nD) : iprop((invs m κ ∗ bars) ∗ (dealt c ∗ own₀ m c)) ⊢ T₀ m c := by
  unfold own₀ T₀ R Tk
  iintro ⟨⟨HI, Hb⟩, Hd, Hh, Hc, HO, Hp⟩
  isplitl [Hh]; · iexact Hh
  isplitl [HI Hb Hd Hc]
  · isplitl [HI]; · iexists κ; iexact HI
    isplitl [Hb]; · iexact Hb
    isplitl [Hd] <;> iassumption
  isplitl [Hp]; · iexact Hp
  iexists ∅; iexact HO

/-- What a device is launched with, split into its buffers and its barrier counter. -/
theorem start_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own₀ m c ∗ (semVal (barCell c) 0 ∗ G c)) : sProp 𝕄) := by
  rw [show unscopedBufs c (fun b => m ((c : Thread nD τ).loc b)) = StableHlo.held (c : Thread nD τ) bufs (V₀ m c) from bufs_held c (V₀ m c),
    unscoped_bar]
  unfold own₀ credit
  iintro ⟨Hh, Hs, HO, Hc, Hp, HG⟩
  ihave Hc := (creds (F := F) c) $$ Hc
  isplitr [Hs HG]
  · isplitl [Hh]; · iexact Hh
    isplitl [Hc]; · iexact Hc
    isplitl [HO]; · iexact HO
    iexists (ρ c); iexact Hp
  isplitl [Hs] <;> iassumption

/-- From the launch every device gets its buffers and its share of the protocol. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (own₀ m) ∗ bigSep barCells (fun g => semVal g 0) ∗ BI.own (ER (launchOf barCells ownCells ringToks))) : sProp 𝕄) := by
    rw [← G_all, show bigSep barCells (fun g => (semVal g 0 : sProp 𝕄)) = bigSep Finset.univ (fun c : Dev nD => semVal (barCell c) 0) from
      bigSep_map (s := Finset.univ) barEmb, ← bigSep_sep', ← bigSep_sep']
    exact bigSep_mono fun c _ => start_split m ρ c
  have hpos : bigSep barCells (fun g => (atPos ER g 0 ∅ 0 : sProp 𝕄)) = bigSep Finset.univ (fun c : Dev nD => (atPos ER (barCell c) 0 ∅ 0 : sProp 𝕄)) :=
    bigSep_map (s := Finset.univ) barEmb
  have hbars : bigSep barCells (fun g => (reached ER g 0 : sProp 𝕄)) = bars := bigSep_map (s := Finset.univ) barEmb
  have hopens : bigSep ownCells (fun g => (openTok ER g : sProp 𝕄))
      = bigSep Finset.univ (fun c : Dev nD => bigSep (Finset.univ : Finset Own) (fun k => openTok ER (siteCell (c, some k)))) := by
    rw [bigSep_map, bigSep_univ_prod]; rfl
  have hinvs (κ : GSem nD τ sig → ℕ) : bigSep (barCells ∪ ownCells) (fun g => cellInv ER (Rd (Xof m) (Yof m)) (κ g) g) ⊢ (invs m κ : sProp 𝕄) :=
    bigSep_intro_persistent fun p _ => bigSep_elim (site_mem p)
  have hdealt : iprop(bigSep barCells (fun g => atPos ER g 0 ∅ 0) ∗ bigSep ownCells (fun g => openTok ER g)
        ∗ bigSep ringToks (fun x => dutyTok ER x.1 x.2.1 x.2.2))
      ⊢ (bigSep Finset.univ (dealt (F := F)) : sProp 𝕄) := by
    rw [hpos, hopens, toks_eq, toks_deal, ← bigSep_sep', ← bigSep_sep']
    exact Entails.refl _
  iintro ⟨H, -⟩
  ihave H := hsplit $$ H
  icases H with ⟨HB, Hv, Hu⟩
  imod (Rounds.fund_launch ER (Rd (Xof m) (Yof m)) cells_disjoint (fun g _ h => h) ringToks) $$ [Hv Hu] with ⟨%κ, -, HI, Hr, Hat, Ho, Ht⟩
  · isplitl [Hv] <;> iassumption
  imodintro
  ihave HI := (hinvs κ) $$ HI
  ihave Hr := (Entails.of_eq hbars) $$ Hr
  ihave Hd := hdealt $$ [Hat Ho Ht]
  · isplitl [Hat]; · iexact Hat
    isplitl [Ho] <;> iassumption
  iapply (bigSep_with_persistent (R := iprop(invs m κ ∗ bars)) (Φ := fun c => iprop(dealt c ∗ own₀ m c)) fun c _ => T₀_intro m κ c)
  isplitl [HI Hr]
  · isplitl [HI] <;> iassumption
  rw [bigSep_sep']
  isplitl [Hd] <;> iassumption

/-- The reshape leaves the first argument -/
theorem V₁_arg0 (c : Dev nD) : V₁ m c (ref main_arg0) = m ((c : Thread nD τ).loc main_arg0) := V_main_arg0 m c
/-- and the second. -/
theorem V₁_arg1 (c : Dev nD) : V₁ m c (ref main_arg1) = m ((c : Thread nD τ).loc main_arg1) := V_main_arg1 m c

set_option backward.isDefEq.respectTransparency.types false in
/-- From any memory with every counter at zero, every run of @main on the 32 devices ends; at the end each device's operands
    are as they were, its result holds `OUT` of all devices' operands, and every counter is back at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = OUT (Xof m) (Yof m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (ref main_arg0) ∧ s.mem ((c : Thread nD τ).loc main_arg1) = V₂ m c (ref main_arg1)
        ∧ s.mem ((c : Thread nD τ).loc main_v2) = V₂ m c (ref main_v2)) ∧ s.sem (barCell c) = 0)
    (hfin := fun c s' => by
      dsimp only [Tₙ]; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_of_ne m c (by decide), V₁_arg0] at h0
        rw [V₂_of_ne m c (by decide), V₁_arg1] at h1
        rw [V₂_out] at h2
        exact ⟨h0, h1, h2⟩,
      sem_eq_zero hs fun c sm hsm => by
        obtain rfl := unscoped_only sm hsm
        exact (h c).2⟩)

end Cert.KernelIdeal.Ring

end
-- ==== Proof.Value.lean ====
module

public import proofs.«01_k».proof.Proof.Run
public import proofs.«01_k».proof.Proof.Gen.ReferenceIdeal.Run
public import Idealize.ShloMosaic.Lib.Layout
public import Idealize.ShloMosaic.Lib.ValueLayout
public import Idealize.ShloMosaic.Lib.Pointwise

@[expose] public section

noncomputable section

namespace Cert.KernelIdeal.Ring

open Cert.KernelIdeal Cert.KernelIdeal.Gen
open Idealize.ShloMosaic hiding ix2 ix3 ix4 eq_ix3
open Idealize.ShloMosaic.TcCoe Idealize.ShloMosaic.ValueIdx

/-! ## The ring's sums at an index -/

/-- An entry of a product of two blocks: the sum over the 512 columns of the block of `O`. -/
theorem prod_at (v : Vec Ideal S1x128x512 .f32) (w : Vec Ideal S512x2048 .f32) (r : Fin 128) (n : Fin 2048) :
    prod (F := Ideal) v w (ix2 r n) = ∑ k : Fin 512, v (ix3 (0 : Fin 1) r k) * w (ix2 k n) := by
  pointwise [prod]
  simp only [ix2_eq_valueIdx, ix3_eq_valueIdx]

/-- The first hop's payload at an index is the product's entry, -/
theorem payT_at (v : Vec Ideal S1x128x512 .f32) (w : Vec Ideal S512x2048 .f32) (r : Fin 128) (n : Fin 2048) :
    payT (F := Ideal) v w (ix3 (0 : Fin 1) r n) = prod v w (ix2 r n) := by
  unfold payT
  rw [shapeCast_ab_1ab_apply]
  rfl

/-- and so is the own product. -/
theorem payP_at (v : Vec Ideal S1x128x512 .f32) (w : Vec Ideal S512x2048 .f32) (r : Fin 128) (n : Fin 2048) :
    payP (F := Ideal) v w (ix3 (0 : Fin 1) r n) = prod v w (ix2 r n) := by
  unfold payP
  rw [shapeCast_ab_1ab_apply]

/-- A sum of what has arrived and the own product, entry by entry: -/
theorem total_at (v : Vec Ideal S1x128x2048 .bf16) (p : Vec Ideal S1x128x2048 .f32) (r : Fin 128) (n : Fin 2048) :
    total (F := Ideal) v p (ix2 r n) = (v (ix3 (0 : Fin 1) r n) + p (ix3 (0 : Fin 1) r n) : EReal) := by
  have h₁ := shapeCast_1ab_ab_apply v shapeCasts_S1x128x2048_S128x2048 r n
  have h₂ := shapeCast_1ab_ab_apply p shapeCasts_S1x128x2048_S128x2048 r n
  unfold total
  rw [← h₁, ← h₂]
  rfl

/-- what a later hop sends, -/
theorem payA_at (v : Vec Ideal S1x128x2048 .bf16) (p : Vec Ideal S1x128x2048 .f32) (r : Fin 128) (n : Fin 2048) :
    payA (F := Ideal) v p (ix3 (0 : Fin 1) r n) = (v (ix3 (0 : Fin 1) r n) + p (ix3 (0 : Fin 1) r n) : EReal) := by
  unfold payA
  rw [shapeCast_ab_1ab_apply, ← total_at]
  rfl

/-- and what the last stores. -/
theorem payO_at (v : Vec Ideal S1x128x2048 .bf16) (p : Vec Ideal S1x128x2048 .f32) (r : Fin 128) (n : Fin 2048) :
    payO (F := Ideal) v p (ix3 (0 : Fin 1) r n) = (v (ix3 (0 : Fin 1) r n) + p (ix3 (0 : Fin 1) r n) : EReal) := by
  unfold payO
  rw [shapeCast_ab_1ab_apply, ← total_at]

/-! ## The blocks of the whole arrays -/

/-- The array of the product's rows as the launch finds it: the reshaped argument. -/
theorem Xof_eq (m : (ℓ : Loc nD τ sig) → Buf (Elt Ideal) ℓ) (c : Dev nD) :
    Xof m c = shapeCast S4x1024x512 (m ((c : Thread nD τ).loc main_arg0)) shapeCasts_S4x1024x8x64_S4x1024x512 := by
  unfold Xof
  show StableHlo.after hostOps0 (fun b => m (c, b)) main_v1 = _
  after_results
  rfl

section blocks

variable (A : (⟨4, ![4, 1024, 32, 64]⟩ : Shape).Idx → EReal) (W : (⟨2, ![2048, 2048]⟩ : Shape).Idx → EReal)

/-- A device's place on the ring. -/
def pos (c : Dev nD) : Fin 4 := ⟨c.val % 4, Nat.mod_lt _ (by decide)⟩

/-- Column `k` of block `z` of the columns. -/
def col (z : Fin 4) (k : Fin 512) : Fin 2048 := ⟨512 * z.val + k.val, by have := z.isLt; have := k.isLt; omega⟩

/-- The whole `O` with its two last axes made one. -/
def wide : (⟨3, ![4, 1024, 2048]⟩ : Shape).Idx → EReal :=
  shapeCast _ A Cert.ReferenceIdeal.Gen.shapeCasts_S4x1024x32x64_S4x1024x2048

/-- Device `c`'s block of `O`. -/
abbrev oPart (c : Dev nD) : (⟨4, ![4, 1024, 8, 64]⟩ : Shape).Idx → EReal :=
  Layout.blockN ⟨4, ![4, 1024, 8, 64]⟩ ⟨4, ![4, 1024, 32, 64]⟩ (Layout.meshBlock [2, 4, 4] ![[], [], [2], []] c) A
/-- Device `c`'s block of `Wo`. -/
abbrev wPart (c : Dev nD) : (⟨2, ![512, 2048]⟩ : Shape).Idx → EReal :=
  Layout.blockN ⟨2, ![512, 2048]⟩ ⟨2, ![2048, 2048]⟩ (Layout.meshBlock [2, 4, 4] ![[2], []] c) W

/-- A device's coordinate on the mesh's last axis is its number mod 4. -/
theorem mesh_last (c : Dev nD) : Layout.meshLin [2, 4, 4] c.val [2] = c.val % 4 := by
  show c.val / 1 % 4 * 1 + 0 = c.val % 4
  omega

/-- The whole reshaped `O` at a column is `O` at the column's head and place in it. -/
theorem wide_at (b : Fin 4) (R : Fin 1024) (h : Fin 32) (d : Fin 64) (K : Fin 2048) (hK : K.val = 64 * h.val + d.val) :
    wide A (ix3 b R K) = A (ix4 b R h d) :=
  shapeCast_apply A _ _ _ (by
    rw [Shape.rowMajor_val_three, Shape.rowMajor_val_four]
    show ((b.val * 1024 + R.val) * 32 + h.val) * 64 + d.val = (b.val * 1024 + R.val) * 2048 + K.val
    omega)

/-- Column `k` of device `c`'s reshaped block of `O` is column `k` of its block of the columns of the whole. -/
theorem oPart_at (c : Dev nD) (b : Fin 4) (R : Fin 1024) (k : Fin 512) :
    shapeCast S4x1024x512 (oPart A c) shapeCasts_S4x1024x8x64_S4x1024x512 (ix3 b R k) = wide A (ix3 b R (col (pos c) k)) := by
  have hk := k.isLt
  have hc : c.val % 4 < 4 := Nat.mod_lt _ (by decide)
  have h₁ := shapeCast_apply (oPart A c) shapeCasts_S4x1024x8x64_S4x1024x512 (ix3 b R k)
    (ix4 b R (⟨k.val / 64, by omega⟩ : Fin 8) (⟨k.val % 64, by omega⟩ : Fin 64)) (by
      rw [Shape.rowMajor_val_three, Shape.rowMajor_val_four]
      show ((b.val * 1024 + R.val) * 8 + k.val / 64) * 64 + k.val % 64 = (b.val * 1024 + R.val) * 512 + k.val
      omega)
  refine h₁.trans ?_
  rw [wide_at A b R (⟨8 * (c.val % 4) + k.val / 64, by omega⟩ : Fin 32) (⟨k.val % 64, by omega⟩ : Fin 64) (col (pos c) k)
    (by show 512 * (c.val % 4) + k.val = 64 * (8 * (c.val % 4) + k.val / 64) + k.val % 64; omega)]
  unfold oPart
  rw [Layout.blockN_apply]
  congr 1
  funext a
  apply Fin.ext
  rw [Layout.TilesN.idx_val, Layout.meshBlock_val]
  match a with
  | ⟨0, _⟩ => show 0 * 4 + b.val = b.val; omega
  | ⟨1, _⟩ => show 0 * 1024 + R.val = R.val; omega
  | ⟨2, _⟩ => show Layout.meshLin [2, 4, 4] c.val [2] * 8 + k.val / 64 = 8 * (c.val % 4) + k.val / 64; rw [mesh_last]; omega
  | ⟨3, _⟩ => show 0 * 64 + k.val % 64 = k.val % 64; omega

/-- Row `k` of device `c`'s block of `Wo` is row `k` of its block of the rows of the whole. -/
theorem wPart_at (c : Dev nD) (k : Fin 512) (n : Fin 2048) : wPart W c (ix2 k n) = W (ix2 (col (pos c) k) n) := by
  unfold wPart
  rw [Layout.blockN_apply]
  congr 1
  funext a
  apply Fin.ext
  rw [Layout.TilesN.idx_val, Layout.meshBlock_val]
  match a with
  | ⟨0, _⟩ => show Layout.meshLin [2, 4, 4] c.val [2] * 512 + k.val = 512 * (c.val % 4) + k.val; rw [mesh_last]; omega
  | ⟨1, _⟩ => show 0 * 2048 + n.val = n.val; omega

/-! ## The whole product, in four parts -/

/-- The part of an entry of the whole product that block `z` of the columns gives. -/
def share (b : Fin 4) (R : Fin 1024) (n : Fin 2048) (z : Fin 4) : EReal :=
  ∑ k : Fin 512, wide A (ix3 b R (col z k)) * W (ix2 (col z k) n)

/-- The whole product. -/
def whole : (⟨3, ![4, 1024, 2048]⟩ : Shape).Idx → EReal :=
  Host.dotGeneral (F := Ideal) (φ₁ := .f32) (φ₂ := .f32)
    Cert.ReferenceIdeal.dot_S4x1024x2048_S2048x2048_S4x1024x2048_2_0_01_1_n_n none (wide A) W

/-- An entry of the whole product is the sum of the four parts. -/
theorem whole_at (b : Fin 4) (R : Fin 1024) (n : Fin 2048) : whole A W (ix3 b R n) = ∑ z : Fin 4, share A W b R n z := by
  have h : whole A W (ix3 b R n) = ∑ K : Fin 2048, wide A (ix3 b R K) * W (ix2 K n) := by
    unfold whole
    generalize wide A = U
    pointwise
    simp only [ix2_eq_valueIdx, ix3_eq_valueIdx]
  rw [h, ← (finProdFinEquiv (m := 4) (n := 512)).sum_comp, Fintype.sum_prod_type]
  refine Finset.sum_congr rfl fun z _ => Finset.sum_congr rfl fun k _ => ?_
  have e : finProdFinEquiv (m := 4) (n := 512) (z, k) = col z k := Fin.ext (by
    show k.val + 512 * z.val = 512 * z.val + k.val
    omega)
  rw [e]

/-- Going once around the ring from any place passes all four. -/
theorem around (f : Fin 4 → EReal) (z z₁ z₂ z₃ : Fin 4) (h₁ : z₁.val = (z.val + 3) % 4) (h₂ : z₂.val = (z₁.val + 3) % 4)
    (h₃ : z₃.val = (z₂.val + 3) % 4) : f z₃ + f z₂ + f z₁ + f z = ∑ y : Fin 4, f y := by
  obtain rfl : z₁ = ⟨(z.val + 3) % 4, Nat.mod_lt _ (by decide)⟩ := Fin.ext h₁
  obtain rfl : z₂ = ⟨((z.val + 3) % 4 + 3) % 4, Nat.mod_lt _ (by decide)⟩ := Fin.ext h₂
  obtain rfl : z₃ = ⟨(((z.val + 3) % 4 + 3) % 4 + 3) % 4, Nat.mod_lt _ (by decide)⟩ := Fin.ext h₃
  rw [Fin.sum_univ_four]
  fin_cases z
  · show f 1 + f 2 + f 3 + f 0 = _; ac_rfl
  · show f 2 + f 3 + f 0 + f 1 = _; ac_rfl
  · show f 3 + f 0 + f 1 + f 2 = _; ac_rfl
  · show f 0 + f 1 + f 2 + f 3 = _; ac_rfl

/-! ## What each device ends with -/

variable (X : Dev nD → oM.view.ty.Contents (Elt Ideal)) (Y : Dev nD → wM.view.ty.Contents (Elt Ideal))
variable (hX : ∀ c, X c = shapeCast S4x1024x512 (oPart A c) shapeCasts_S4x1024x8x64_S4x1024x512) (hY : ∀ c, Y c = wPart W c)

/-- The sub-block that a device multiplies, read off its block of `O`. -/
theorem oblk_at (c : Dev nD) (h : Fin 4) (s : Fin 8) (r : Fin 128) (k : Fin 512) (b : Fin 4) (R : Fin 1024)
    (hb : b.val = s.val / 2) (hR : R.val = 256 * ((c.val % 4 + 3 - h.val) % 4) + 128 * (s.val % 2) + r.val) :
    oblk X c h s (ix3 (0 : Fin 1) r k) = X c (ix3 b R k) := by
  have e : (orect c h s).emb (ix3 (0 : Fin 1) r k) = (ix3 b R k : S4x1024x512.Idx) := by
    funext a
    apply Fin.ext
    rw [Rect.emb_apply]
    have ho := orow_eq c h s
    match a with
    | ⟨0, _⟩ => show orow c h s 0 + 1 * 0 = b.val; rw [ho]; show s.val / 2 + 1 * 0 = b.val; omega
    | ⟨1, _⟩ =>
      show orow c h s 1 + 1 * r.val = R.val
      rw [ho]
      show 256 * ((c.val % 4 + 3 - h.val) % 4) + 128 * (s.val % 2) + 1 * r.val = R.val
      omega
    | ⟨2, _⟩ => show 0 + 1 * k.val = k.val; omega
  rw [← e]
  rfl

/-- The block of `Wo` is read whole. -/
theorem wblk_at (c : Dev nD) (k : Fin 512) (n : Fin 2048) : wblk Y c (ix2 k n) = Y c (ix2 k n) := by
  have e : wrect.emb (ix2 k n) = (ix2 k n : S512x2048.Idx) := by
    funext a
    apply Fin.ext
    rw [Rect.emb_apply]
    match a with
    | ⟨0, _⟩ => show 0 + 1 * k.val = k.val; omega
    | ⟨1, _⟩ => show 0 + 1 * n.val = n.val; omega
  conv_rhs => rw [← e]
  rfl

include hX hY in
/-- A device's own product is its part of the whole product's entry. -/
theorem own_at (c : Dev nD) (h : Fin 4) (s : Fin 8) (r : Fin 128) (n : Fin 2048) (b : Fin 4) (R : Fin 1024)
    (hb : b.val = s.val / 2) (hR : R.val = 256 * ((c.val % 4 + 3 - h.val) % 4) + 128 * (s.val % 2) + r.val) :
    prod (oblk X c h s) (wblk Y c) (ix2 r n) = share A W b R n (pos c) := by
  rw [prod_at]
  unfold share
  refine Finset.sum_congr rfl fun k _ => ?_
  rw [oblk_at X c h s r k b R hb hR, wblk_at, hX, hY, oPart_at, wPart_at]

include hX hY in
/-- What device `c` stores at the end is the whole product's entry, in the rows of chunk `c mod 4`. -/
theorem result_at (c : Dev nD) (s : Fin 8) (r : Fin 128) (n : Fin 2048) (b : Fin 4) (R : Fin 1024)
    (hb : b.val = s.val / 2) (hR : R.val = 256 * (c.val % 4) + 128 * (s.val % 2) + r.val) :
    result X Y c s (ix3 (0 : Fin 1) r n) = whole A W (ix3 b R n) := by
  have l₁ := left_val c
  have l₂ := left_val (left c)
  have l₃ := left_val (left (left c))
  rw [whole_at, ← around (share A W b R n) (pos c) (pos (left c)) (pos (left (left c))) (pos (left (left (left c))))
    (by show (left c).val % 4 = (c.val % 4 + 3) % 4; omega)
    (by show (left (left c)).val % 4 = ((left c).val % 4 + 3) % 4; omega)
    (by show (left (left (left c))).val % 4 = ((left (left c)).val % 4 + 3) % 4; omega)]
  have o₀ := own_at A W X Y hX hY (left (left (left c))) 0 s r n b R hb (by
    show R.val = 256 * (((left (left (left c))).val % 4 + 3 - 0) % 4) + 128 * (s.val % 2) + r.val; omega)
  have o₁ := own_at A W X Y hX hY (left (left c)) 1 s r n b R hb (by
    show R.val = 256 * (((left (left c)).val % 4 + 3 - 1) % 4) + 128 * (s.val % 2) + r.val; omega)
  have o₂ := own_at A W X Y hX hY (left c) 2 s r n b R hb (by
    show R.val = 256 * (((left c).val % 4 + 3 - 2) % 4) + 128 * (s.val % 2) + r.val; omega)
  have o₃ := own_at A W X Y hX hY c 3 s r n b R hb (by
    show R.val = 256 * ((c.val % 4 + 3 - 3) % 4) + 128 * (s.val % 2) + r.val; omega)
  have s₀ : sent X Y 0 (left (left (left c))) s (ix3 (0 : Fin 1) r n) = share A W b R n (pos (left (left (left c)))) :=
    (payT_at _ _ r n).trans o₀
  have s₁ : sent X Y 1 (left (left c)) s (ix3 (0 : Fin 1) r n)
      = share A W b R n (pos (left (left (left c)))) + share A W b R n (pos (left (left c))) :=
    (payA_at _ _ r n).trans (congrArg₂ (· + ·) s₀ ((payP_at _ _ r n).trans o₁))
  have s₂ : sent X Y 2 (left c) s (ix3 (0 : Fin 1) r n)
      = share A W b R n (pos (left (left (left c)))) + share A W b R n (pos (left (left c))) + share A W b R n (pos (left c)) :=
    (payA_at _ _ r n).trans (congrArg₂ (· + ·) s₁ ((payP_at _ _ r n).trans o₂))
  exact (payO_at _ _ r n).trans (congrArg₂ (· + ·) s₂ ((payP_at _ _ r n).trans o₃))

include hX hY in
/-- Each device ends with its block of the whole product. -/
theorem OUT_eq (c : Dev nD) : OUT X Y c
    = Layout.blockN ⟨3, ![4, 256, 2048]⟩ ⟨3, ![4, 1024, 2048]⟩ (Layout.meshBlock [2, 4, 4] ![[], [2], []] c) (whole A W) := by
  funext i
  obtain ⟨b, q, n, rfl⟩ : ∃ (b : Fin 4) (q : Fin 256) (n : Fin 2048), i = ix3 b q n := ⟨i 0, i 1, i 2, eq_ix3 i⟩
  have hq := q.isLt
  have hb := b.isLt
  have hc : c.val % 4 < 4 := Nat.mod_lt _ (by decide)
  have hs : (subOf (ix3 b q n)).val = 2 * b.val + q.val / 128 := rfl
  have hi : inSub (ix3 b q n) = ix3 (0 : Fin 1) (⟨q.val % 128, by omega⟩ : Fin 128) n := by
    funext a
    match a with
    | ⟨0, _⟩ => rfl
    | ⟨1, _⟩ => rfl
    | ⟨2, _⟩ => rfl
  unfold OUT
  rw [hi, result_at A W X Y hX hY c (subOf (ix3 b q n)) (⟨q.val % 128, by omega⟩ : Fin 128) n b
    (⟨256 * (c.val % 4) + q.val, by omega⟩ : Fin 1024) (by rw [hs]; omega)
    (by rw [hs]; show 256 * (c.val % 4) + q.val = 256 * (c.val % 4) + 128 * ((2 * b.val + q.val / 128) % 2) + q.val % 128; omega),
    Layout.blockN_apply]
  congr 1
  funext a
  apply Fin.ext
  rw [Layout.TilesN.idx_val, Layout.meshBlock_val]
  match a with
  | ⟨0, _⟩ => show b.val = 0 * 4 + b.val; omega
  | ⟨1, _⟩ => show 256 * (c.val % 4) + q.val = Layout.meshLin [2, 4, 4] c.val [2] * 256 + q.val; rw [mesh_last]; omega
  | ⟨2, _⟩ => show n.val = 0 * 2048 + n.val; omega

end blocks

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel's body table and the idealized kernel's are the same over bit patterns: the idealization rewrote nothing. -/
theorem bodies_same : Cert.Kernel.defs₀ (F := Bits) = Cert.KernelIdeal.defs₀ (F := Bits) := by
  funext p l a
  cases p with
  | tc => exact match l, a with | 0, (_, _) => rfl
  | scScalar _ => rfl
  | scVector _ _ => rfl

/-- So are the tables with the launch's region. -/
theorem defs_same : Cert.Kernel.defs (F := Bits) = Cert.KernelIdeal.defs (F := Bits) :=
  congrArg (Pipeline.defs (Cert.KernelIdeal.pcfgs (F := Bits))) bodies_same

/-- The run over bit patterns, its values dropped, under any name of the body table. -/
theorem frame_of (D : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm))
    (hD : D = Cert.KernelIdeal.defs (F := Bits))
    (m : (ℓ : Loc Cert.KernelIdeal.nD Cert.KernelIdeal.τ Cert.KernelIdeal.sig) → Buf (Elt Bits) ℓ)
    (ρ : Dev Cert.KernelIdeal.nD → PrngReg) :
    θ_run D (onTc (τ := Cert.KernelIdeal.τ) (Cert.KernelIdeal.main (F := Bits))) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0) := by
  subst hD
  exact (θ_run Cert.KernelIdeal.defs _ _).mono (fun _ h => ⟨fun c => ⟨(h.1 c).1, (h.1 c).2.1⟩, h.2⟩)
    (Cert.KernelIdeal.Ring.run_main (F := Bits) m ρ)

/-- The kernel runs to its end from any memory, its arguments unchanged and its counters back at zero. -/
theorem frame_kernel : Cert.quiescent_Kernel := fun m ρ _ => frame_of _ defs_same m ρ

/-- So does the kernel over extended reals. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Ring.run_main (F := Ideal) m ρ)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are blocks of the reference's, each device ends with its block of the reference's product. -/
theorem algebraic : Cert.algebraic_KernelIdeal_ReferenceIdeal := by
  intro m ρ m' ρ' _ hag
  refine ⟨Cert.KernelIdeal.Ring.whole
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.Ring.run_main (F := Ideal) m ρ)
    exact Cert.KernelIdeal.Ring.OUT_eq _ _ _ _
      (fun d => (Cert.KernelIdeal.Ring.Xof_eq m d).trans (congrArg (fun v => shapeCast _ v _) (hag d).1))
      (fun d => (Cert.KernelIdeal.Gen.V_main_arg1 m d).trans (hag d).2) c
  · exact (θ_run Cert.ReferenceIdeal.defs _ _).mono (fun _ h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
